-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite [hPre_finite : Cert.Pre_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite.fn (F := Ideal) (m ((c.tc : Thread Cert.AttRefIdeal.nD Cert.AttRefIdeal.τ).loc Cert.AttRefIdeal.main_arg0))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_sums [hPre_finite_sums : Cert.Pre_finite_sums.Facts] (m : (ℓ : Loc Cert.MixIdeal.nD Cert.MixIdeal.τ Cert.MixIdeal.sig) → Buf (Elt Ideal) ℓ) : Prop :=
  ∀ c : Dev Cert.MixIdeal.nD,
    (Cert.Pre_finite_sums.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_sums [hPre_finite_sums : Cert.Pre_finite_sums.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_sums.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0))
      ∧ r.2.sem = fun _ => 0)

def quiescent_AttRefIdeal_pre_finite [hAttRefIdeal : Cert.AttRefIdeal.Facts] [hPre_finite : Cert.Pre_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixIdeal_pre_finite_sums [hMixIdeal : Cert.MixIdeal.Facts] [hPre_finite_sums : Cert.Pre_finite_sums.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_sums m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_MixRefIdeal_pre_finite_sums [hMixRefIdeal : Cert.MixRefIdeal.Facts] [hPre_finite_sums : Cert.Pre_finite_sums.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_sums m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v17_0)) (v1 : (c : Dev Cert.ProjIdeal.nD) → Buf (Elt Ideal) ((c.tc : Thread Cert.ProjIdeal.nD Cert.ProjIdeal.τ).loc Cert.ProjIdeal.main_v17_1)) (v2 : (c : Dev Cert.ProjIdeal.nD) → Buf (Elt Ideal) ((c.tc : Thread Cert.ProjIdeal.nD Cert.ProjIdeal.τ).loc Cert.ProjIdeal.main_v17_2)) (v3 : (c : Dev Cert.ProjIdeal.nD) → Buf (Elt Ideal) ((c.tc : Thread Cert.ProjIdeal.nD Cert.ProjIdeal.τ).loc Cert.ProjIdeal.main_v17_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v17_0) = v0 c
          ∧ r.2.mem ((c.tc : Thread Cert.ProjIdeal.nD Cert.ProjIdeal.τ).loc Cert.ProjIdeal.main_v17_1) = v1 c
          ∧ r.2.mem ((c.tc : Thread Cert.ProjIdeal.nD Cert.ProjIdeal.τ).loc Cert.ProjIdeal.main_v17_2) = v2 c
          ∧ r.2.mem ((c.tc : Thread Cert.ProjIdeal.nD Cert.ProjIdeal.τ).loc Cert.ProjIdeal.main_v17_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v44) = v0 c
          ∧ r.2.mem ((c.tc : Thread Cert.ProjRefIdeal.nD Cert.ProjRefIdeal.τ).loc Cert.ProjRefIdeal.main_v45) = v1 c
          ∧ r.2.mem ((c.tc : Thread Cert.ProjRefIdeal.nD Cert.ProjRefIdeal.τ).loc Cert.ProjRefIdeal.main_v46) = v2 c
          ∧ r.2.mem ((c.tc : Thread Cert.ProjRefIdeal.nD Cert.ProjRefIdeal.τ).loc Cert.ProjRefIdeal.main_v47) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Att_AttIdeal : Prop :=
  True

def algebraic_AttIdeal_AttRefIdeal_pre_finite [hAttIdeal : Cert.AttIdeal.Facts] [hAttRefIdeal : Cert.AttRefIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)) →
    ∃ (v0 : (c : Dev Cert.AttIdeal.nD) → Buf (Elt Ideal) ((c.tc : Thread Cert.AttIdeal.nD Cert.AttIdeal.τ).loc Cert.AttIdeal.main_v0_0)) (v1 : (c : Dev Cert.AttIdeal.nD) → Buf (Elt Ideal) ((c.tc : Thread Cert.AttIdeal.nD Cert.AttIdeal.τ).loc Cert.AttIdeal.main_v0_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0_0) = v0 c
          ∧ r.2.mem ((c.tc : Thread Cert.AttIdeal.nD Cert.AttIdeal.τ).loc Cert.AttIdeal.main_v0_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v81) = v0 c
          ∧ r.2.mem ((c.tc : Thread Cert.AttRefIdeal.nD Cert.AttRefIdeal.τ).loc Cert.AttRefIdeal.main_v88) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0))

def preserves_Mix_MixIdeal : Prop :=
  True

def algebraic_MixIdeal_MixRefIdeal_pre_finite_sums [hMixIdeal : Cert.MixIdeal.Facts] [hMixRefIdeal : Cert.MixRefIdeal.Facts] [hPre_finite_sums : Cert.Pre_finite_sums.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_sums m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)) (v2 : (c : Dev Cert.MixIdeal.nD) → Buf (Elt Ideal) ((c.tc : Thread Cert.MixIdeal.nD Cert.MixIdeal.τ).loc Cert.MixIdeal.main_v13_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_v13_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v47) = v0 c
          ∧ r.2.mem ((c.tc : Thread Cert.MixRefIdeal.nD Cert.MixRefIdeal.τ).loc Cert.MixRefIdeal.main_v67) = v1 c
          ∧ r.2.mem ((c.tc : Thread Cert.MixRefIdeal.nD Cert.MixRefIdeal.τ).loc Cert.MixRefIdeal.main_v68) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def Claim : Prop :=
  ∃ (hProj : Cert.Proj.Facts) (hProjIdeal : Cert.ProjIdeal.Facts) (hProjRefIdeal : Cert.ProjRefIdeal.Facts) (hAtt : Cert.Att.Facts) (hAttIdeal : Cert.AttIdeal.Facts) (hAttRefIdeal : Cert.AttRefIdeal.Facts) (hMix : Cert.Mix.Facts) (hMixIdeal : Cert.MixIdeal.Facts) (hMixRefIdeal : Cert.MixRefIdeal.Facts) (hFinal : Cert.Final.Facts) (hFinalIdeal : Cert.FinalIdeal.Facts) (hFinalRefIdeal : Cert.FinalRefIdeal.Facts) (hPre_finite : Cert.Pre_finite.Facts) (hPre_finite_sums : Cert.Pre_finite_sums.Facts),
    quiescent_Proj (hProj := hProj)
    ∧ quiescent_ProjIdeal (hProjIdeal := hProjIdeal)
    ∧ quiescent_ProjRefIdeal (hProjRefIdeal := hProjRefIdeal)
    ∧ quiescent_Att (hAtt := hAtt)
    ∧ quiescent_AttIdeal (hAttIdeal := hAttIdeal)
    ∧ quiescent_AttIdeal_pre_finite (hAttIdeal := hAttIdeal) (hPre_finite := hPre_finite)
    ∧ quiescent_AttRefIdeal (hAttRefIdeal := hAttRefIdeal)
    ∧ quiescent_AttRefIdeal_pre_finite (hAttRefIdeal := hAttRefIdeal) (hPre_finite := hPre_finite)
    ∧ quiescent_Mix (hMix := hMix)
    ∧ quiescent_MixIdeal (hMixIdeal := hMixIdeal)
    ∧ quiescent_MixIdeal_pre_finite_sums (hMixIdeal := hMixIdeal) (hPre_finite_sums := hPre_finite_sums)
    ∧ quiescent_MixRefIdeal (hMixRefIdeal := hMixRefIdeal)
    ∧ quiescent_MixRefIdeal_pre_finite_sums (hMixRefIdeal := hMixRefIdeal) (hPre_finite_sums := hPre_finite_sums)
    ∧ quiescent_Final (hFinal := hFinal)
    ∧ quiescent_FinalIdeal (hFinalIdeal := hFinalIdeal)
    ∧ quiescent_FinalRefIdeal (hFinalRefIdeal := hFinalRefIdeal)
    ∧ preserves_Proj_ProjIdeal
    ∧ algebraic_ProjIdeal_ProjRefIdeal (hProjIdeal := hProjIdeal) (hProjRefIdeal := hProjRefIdeal)
    ∧ preserves_Att_AttIdeal
    ∧ algebraic_AttIdeal_AttRefIdeal_pre_finite (hAttIdeal := hAttIdeal) (hAttRefIdeal := hAttRefIdeal) (hPre_finite := hPre_finite)
    ∧ preserves_Mix_MixIdeal
    ∧ algebraic_MixIdeal_MixRefIdeal_pre_finite_sums (hMixIdeal := hMixIdeal) (hMixRefIdeal := hMixRefIdeal) (hPre_finite_sums := hPre_finite_sums)
    ∧ preserves_Final_FinalIdeal
    ∧ algebraic_FinalIdeal_FinalRefIdeal (hFinalIdeal := hFinalIdeal) (hFinalRefIdeal := hFinalRefIdeal)
-- ==== Pre_finite.lean ====
abbrev S8x1x4096x1536 : Shape := ⟨4, ![8, 1, 4096, 1536]⟩
abbrev S_ : Shape := ⟨0, ![]⟩

class Facts : Prop where
  bitsLt_bf16_f32 : FTy.bits .bf16 < FTy.bits .f32
  bcast_S_S8x1x4096x1536 : S_.BroadcastsInDim S8x1x4096x1536 (![] : Fin 0 → Fin S8x1x4096x1536.rank)

variable [Facts]

def fn {F : FTy → Type} [FloatOps F] (main_arg0 : FVec F S8x1x4096x1536 .bf16) : IVec S8x1x4096x1536 1 :=
  let main_v0 : FVec F S8x1x4096x1536 .f32 := (extf .f32 · bitsLt_bf16_f32) main_arg0
  let main_v1 : FVec F S8x1x4096x1536 .f32 := Host.absf main_v0
  let main_cst : FVec F S_ .f32 := constant S_ .f32 0x7F800000#32
  let main_v2 : FVec F S8x1x4096x1536 .f32 := broadcastInDim S8x1x4096x1536 ![] bcast_S_S8x1x4096x1536 main_cst
  let main_v3 : IVec S8x1x4096x1536 1 := cmpf .olt main_v1 main_v2
  main_v3
-- ==== Pre_finite_sums.lean ====
abbrev S32768x1024 : Shape := ⟨2, ![32768, 1024]⟩
abbrev S4x32768x128 : Shape := ⟨3, ![4, 32768, 128]⟩
abbrev S32768x5120 : Shape := ⟨2, ![32768, 5120]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S_ : Shape := ⟨0, ![]⟩

class Facts : Prop where
  bcast_S_S4x32768x128 : S_.BroadcastsInDim S4x32768x128 (![] : Fin 0 → Fin S4x32768x128.rank)

variable [Facts]

def fn {F : FTy → Type} [FloatOps F] (main_arg0 : FVec F S32768x1024 .bf16) (main_arg1 : FVec F S4x32768x128 .f32) (main_arg2 : FVec F S4x32768x128 .f32) (main_arg3 : FVec F S4x32768x128 .f32) (main_arg4 : FVec F S4x32768x128 .f32) (main_arg5 : FVec F S4x32768x128 .f32) (main_arg6 : FVec F S4x32768x128 .f32) (main_arg7 : FVec F S32768x5120 .bf16) (main_arg8 : FVec F S32768x1024 .f32) (main_arg9 : FVec F S1x1024x1024 .f32) (main_arg10 : FVec F S1x512x1024 .f32) (main_arg11 : FVec F S1x1024x1024 .f32) (main_arg12 : FVec F S1x1024 .f32) (main_arg13 : FVec F S1x1024x2048 .f32) (main_arg14 : FVec F S1x8x2x128x128 .f32) : IVec S4x32768x128 1 :=
  let main_v0 : FVec F S4x32768x128 .f32 := Host.absf main_arg4
  let main_cst : FVec F S_ .f32 := constant S_ .f32 0x7F800000#32
  let main_v1 : FVec F S4x32768x128 .f32 := broadcastInDim S4x32768x128 ![] bcast_S_S4x32768x128 main_cst
  let main_v2 : IVec S4x32768x128 1 := cmpf .olt main_v0 main_v1
  let main_v3 : FVec F S4x32768x128 .f32 := Host.absf main_arg5
  let main_cst_0 : FVec F S_ .f32 := constant S_ .f32 0x7F800000#32
  let main_v4 : FVec F S4x32768x128 .f32 := broadcastInDim S4x32768x128 ![] bcast_S_S4x32768x128 main_cst_0
  let main_v5 : IVec S4x32768x128 1 := cmpf .olt main_v3 main_v4
  let main_v6 : IVec S4x32768x128 1 := andi main_v2 main_v5
  let main_v7 : FVec F S4x32768x128 .f32 := Host.absf main_arg6
  let main_cst_1 : FVec F S_ .f32 := constant S_ .f32 0x7F800000#32
  let main_v8 : FVec F S4x32768x128 .f32 := broadcastInDim S4x32768x128 ![] bcast_S_S4x32768x128 main_cst_1
  let main_v9 : IVec S4x32768x128 1 := cmpf .olt main_v7 main_v8
  let main_v10 : IVec S4x32768x128 1 := andi main_v6 main_v9
  main_v10
-- ==== Proj.lean ====
abbrev S8x4096x1024 : Shape := ⟨3, ![8, 4096, 1024]⟩
abbrev S1x1024 : Shape := ⟨2, ![1, 1024]⟩
abbrev S1x1024x9728 : Shape := ⟨3, ![1, 1024, 9728]⟩
abbrev S1024x9728 : Shape := ⟨2, ![1024, 9728]⟩
abbrev S1024x512 : Shape := ⟨2, ![1024, 512]⟩
abbrev S1024x3072 : Shape := ⟨2, ![1024, 3072]⟩
abbrev S1024x2048 : Shape := ⟨2, ![1024, 2048]⟩
abbrev S32768x1024 : Shape := ⟨2, ![32768, 1024]⟩
abbrev S1024 : Shape := ⟨1, ![1024]⟩
abbrev S32768x5120 : Shape := ⟨2, ![32768, 5120]⟩
abbrev S32768x1536 : Shape := ⟨2, ![32768, 1536]⟩
abbrev S8x4x1024x1536 : Shape := ⟨4, ![8, 4, 1024, 1536]⟩
abbrev S8x16x256x1536 : Shape := ⟨4, ![8, 16, 256, 1536]⟩
abbrev S256x1024 : Shape := ⟨2, ![256, 1024]⟩
abbrev S256x5120 : Shape := ⟨2, ![256, 5120]⟩
abbrev S256x1536 : Shape := ⟨2, ![256, 1536]⟩
abbrev S1x4x64x1536 : Shape := ⟨4, ![1, 4, 64, 1536]⟩
abbrev S1x16x16x1536 : Shape := ⟨4, ![1, 16, 16, 1536]⟩
abbrev S4x256x128 : Shape := ⟨3, ![4, 256, 128]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S64x512 : Shape := ⟨2, ![64, 512]⟩
abbrev S1x1x64x512 : Shape := ⟨4, ![1, 1, 64, 512]⟩
abbrev S1x16x128 : Shape := ⟨3, ![1, 16, 128]⟩
abbrev S16x128 : Shape := ⟨2, ![16, 128]⟩
abbrev S16x512 : Shape := ⟨2, ![16, 512]⟩
abbrev S1x1x16x512 : Shape := ⟨4, ![1, 1, 16, 512]⟩

abbrev nBuf : Space → Nat
  | .hbm => 24
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x9728, .f32⟩
  | .hbm, ⟨3, _⟩ => ⟨S1024x9728, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x3072, .f32⟩
  | .hbm, ⟨14, _⟩ => ⟨S1024x2048, .f32⟩
  | .hbm, ⟨15, _⟩ => ⟨S1024x9728, .f32⟩
  | .hbm, ⟨16, _⟩ => ⟨S1024x9728, .bf16⟩
  | .hbm, ⟨17, _⟩ => ⟨S32768x1024, .f32⟩
  | .hbm, ⟨18, _⟩ => ⟨S1024, .f32⟩
  | .hbm, ⟨19, _⟩ => ⟨S1x1024, .f32⟩
  | .hbm, ⟨20, _⟩ => ⟨S32768x5120, .bf16⟩
  | .hbm, ⟨21, _⟩ => ⟨S32768x1536, .bf16⟩
  | .hbm, ⟨22, _⟩ => ⟨S8x4x1024x1536, .bf16⟩
  | .hbm, ⟨23, _⟩ => ⟨S8x16x256x1536, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x9728, .bf16⟩
  | .local _ .vmem, ⟨4, _⟩ => ⟨S256x5120, .bf16⟩
  | .local _ .vmem, ⟨5, _⟩ => ⟨S256x5120, .bf16⟩
  | .local _ .vmem, ⟨6, _⟩ => ⟨S256x1536, .bf16⟩
  | .local _ .vmem, ⟨7, _⟩ => ⟨S256x1536, .bf16⟩
  | .local _ .vmem, ⟨8, _⟩ => ⟨S1x4x64x1536, .bf16⟩
  | .local _ .vmem, ⟨9, _⟩ => ⟨S1x4x64x1536, .bf16⟩
  | .local _ .vmem, ⟨10, _⟩ => ⟨S1x16x16x1536, .bf16⟩
  | .local _ .vmem, ⟨11, _⟩ => ⟨S1x16x16x1536, .bf16⟩
  | .local _ .vmem, ⟨12, _⟩ => ⟨S4x256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v17_2 : Ref sig .tc := ⟨.hbm, 22, rfl⟩
abbrev main_v17_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9728 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x16x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S8x4096x1024 : Shape := ⟨3, ![8, 4096, 1024]⟩
abbrev S1x1024 : Shape := ⟨2, ![1, 1024]⟩
abbrev S1x1024x9728 : Shape := ⟨3, ![1, 1024, 9728]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x9728 : Shape := ⟨2, ![1024, 9728]⟩
abbrev S8x4096x9728 : Shape := ⟨3, ![8, 4096, 9728]⟩
abbrev S8x4096x512 : Shape := ⟨3, ![8, 4096, 512]⟩
abbrev S8x4096x1536 : Shape := ⟨3, ![8, 4096, 1536]⟩
abbrev S8x4096x5120 : Shape := ⟨3, ![8, 4096, 5120]⟩
abbrev S32768x5120 : Shape := ⟨2, ![32768, 5120]⟩
abbrev S32768x1536 : Shape := ⟨2, ![32768, 1536]⟩
abbrev S8x1024x4x1536 : Shape := ⟨4, ![8, 1024, 4, 1536]⟩
abbrev S8x4x1024x1536 : Shape := ⟨4, ![8, 4, 1024, 1536]⟩
abbrev S8x256x16x1536 : Shape := ⟨4, ![8, 256, 16, 1536]⟩
abbrev S8x16x256x1536 : Shape := ⟨4, ![8, 16, 256, 1536]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x9728, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x9728, .f32⟩
  | .hbm, ⟨21, _⟩ => ⟨S8x4096x9728, .f32⟩
  | .hbm, ⟨22, _⟩ => ⟨S8x4096x512, .f32⟩
  | .hbm, ⟨23, _⟩ => ⟨S8x4096x512, .f32⟩
  | .hbm, ⟨24, _⟩ => ⟨S8x4096x1024, .f32⟩
  | .hbm, ⟨25, _⟩ => ⟨S8x4096x1024, .f32⟩
  | .hbm, ⟨26, _⟩ => ⟨S8x4096x1536, .f32⟩
  | .hbm, ⟨27, _⟩ => ⟨S8x4096x1536, .f32⟩
  | .hbm, ⟨28, _⟩ => ⟨S8x4096x1536, .f32⟩
  | .hbm, ⟨29, _⟩ => ⟨S8x4096x1024, .f32⟩
  | .hbm, ⟨30, _⟩ => ⟨S8x4096x1024, .f32⟩
  | .hbm, ⟨31, _⟩ => ⟨S8x4096x5120, .f32⟩
  | .hbm, ⟨32, _⟩ => ⟨S32768x5120, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x1536, .f32⟩
  | .hbm, ⟨37, _⟩ => ⟨S32768x1536, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S8x4096x1536, .f32⟩
  | .hbm, ⟨42, _⟩ => ⟨S8x1024x4x1536, .f32⟩
  | .hbm, ⟨43, _⟩ => ⟨S8x4x1024x1536, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S8x4096x1536, .f32⟩
  | .hbm, ⟨48, _⟩ => ⟨S8x256x16x1536, .f32⟩
  | .hbm, ⟨49, _⟩ => ⟨S8x16x256x1536, .f32⟩
  | .hbm, ⟨50, _⟩ => ⟨S32768x5120, .bf16⟩
  | .hbm, ⟨51, _⟩ => ⟨S32768x1536, .bf16⟩
  | .hbm, ⟨52, _⟩ => ⟨S8x4x1024x1536, .bf16⟩
  | .hbm, ⟨53, _⟩ => ⟨S8x16x256x1536, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== Att.lean ====
abbrev S8x1x4096x1536 : Shape := ⟨4, ![8, 1, 4096, 1536]⟩
abbrev S4x8x4096x128 : Shape := ⟨4, ![4, 8, 4096, 128]⟩
abbrev S4x1x128x512 : Shape := ⟨4, ![4, 1, 128, 512]⟩
abbrev S4x4x128x128 : Shape := ⟨4, ![4, 4, 128, 128]⟩
abbrev S128x256 : Shape := ⟨2, ![128, 256]⟩
abbrev S1x1x128x512 : Shape := ⟨4, ![1, 1, 128, 512]⟩
abbrev S128x512 : Shape := ⟨2, ![128, 512]⟩
abbrev S256x512 : Shape := ⟨2, ![256, 512]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 3
  | .vmem => 14
  | .smem => 0
  | _ => 0

abbrev bufTy : (tb : Table) → Fin (tcTables nBuf tb) → BufTy
  | .hbm, ⟨0, _⟩ => ⟨S8x1x4096x1536, .bf16⟩
  | .hbm, ⟨1, _⟩ => ⟨S4x8x4096x128, .f32⟩
  | .hbm, ⟨2, _⟩ => ⟨S4x8x4096x128, .f32⟩
  | .local _ .vmem, ⟨0, _⟩ => ⟨S4x1x128x512, .bf16⟩
  | .local _ .vmem, ⟨1, _⟩ => ⟨S4x1x128x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S4x1x128x512, .bf16⟩
  | .local _ .vmem, ⟨5, _⟩ => ⟨S4x1x128x512, .bf16⟩
  | .local _ .vmem, ⟨6, _⟩ => ⟨S4x1x128x512, .bf16⟩
  | .local _ .vmem, ⟨7, _⟩ => ⟨S4x1x128x512, .bf16⟩
  | .local _ .vmem, ⟨8, _⟩ => ⟨S4x1x128x512, .bf16⟩
  | .local _ .vmem, ⟨9, _⟩ => ⟨S4x1x128x512, .bf16⟩
  | .local _ .vmem, ⟨10, _⟩ => ⟨S4x4x128x128, .f32⟩
  | .local _ .vmem, ⟨11, _⟩ => ⟨S4x4x128x128, .f32⟩
  | .local _ .vmem, ⟨12, _⟩ => ⟨S4x4x128x128, .f32⟩
  | .local _ .vmem, ⟨13, _⟩ => ⟨S4x4x128x128, .f32⟩
  | _, _ => ⟨S8x1x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, arg2.toNat, v1.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, arg1.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, arg2.toNat, v1.toNat, c2_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, arg1.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S4x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttRefIdeal.lean ====
abbrev S8x1x4096x1536 : Shape := ⟨4, ![8, 1, 4096, 1536]⟩
abbrev S8x1x4096x512 : Shape := ⟨4, ![8, 1, 4096, 512]⟩
abbrev S8x1x32x128x4x128 : Shape := ⟨6, ![8, 1, 32, 128, 4, 128]⟩
abbrev S8x1x1x128x4x128 : Shape := ⟨6, ![8, 1, 1, 128, 4, 128]⟩
abbrev S_ : Shape := ⟨0, ![]⟩
abbrev S8x1x31x128x4x128 : Shape := ⟨6, ![8, 1, 31, 128, 4, 128]⟩
abbrev S8x1x32x256x4x128 : Shape := ⟨6, ![8, 1, 32, 256, 4, 128]⟩
abbrev S8x1x32x4x128x256 : Shape := ⟨6, ![8, 1, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1 : Shape := ⟨1, ![1]⟩
abbrev S4 : Shape := ⟨1, ![4]⟩
abbrev S4x1x1 : Shape := ⟨3, ![4, 1, 1]⟩
abbrev S4x128x256 : Shape := ⟨3, ![4, 128, 256]⟩
abbrev S32x1x128x256 : Shape := ⟨4, ![32, 1, 128, 256]⟩
abbrev S1x1x1x4x128x256 : Shape := ⟨6, ![1, 1, 1, 4, 128, 256]⟩
abbrev S8x1x32x4x128 : Shape := ⟨5, ![8, 1, 32, 4, 128]⟩
abbrev S8x1x32x4x128x1 : Shape := ⟨6, ![8, 1, 32, 4, 128, 1]⟩
abbrev S8x1x32x4x128x128 : Shape := ⟨6, ![8, 1, 32, 4, 128, 128]⟩
abbrev S8x4096x4x128 : Shape := ⟨4, ![8, 4096, 4, 128]⟩
abbrev S4x8x4096x128 : Shape := ⟨4, ![4, 8, 4096, 128]⟩
abbrev S8x32x4x128 : Shape := ⟨4, ![8, 32, 4, 128]⟩
abbrev S4x8x32x128 : Shape := ⟨4, ![4, 8, 32, 128]⟩
abbrev S4x8x4096 : Shape := ⟨3, ![4, 8, 4096]⟩
abbrev S4x8x4096x1 : Shape := ⟨4, ![4, 8, 4096, 1]⟩

abbrev nBuf : Space → Nat
  | .hbm => 110
  | .vmem => 0
  | .smem => 0
  | _ => 0

abbrev bufTy : (tb : Table) → Fin (tcTables nBuf tb) → BufTy
  | .hbm, ⟨0, _⟩ => ⟨S8x1x4096x1536, .bf16⟩
  | .hbm, ⟨1, _⟩ => ⟨S8x1x4096x1536, .f32⟩
  | .hbm, ⟨2, _⟩ => ⟨S8x1x4096x512, .f32⟩
  | .hbm, ⟨3, _⟩ => ⟨S8x1x32x128x4x128, .f32⟩
  | .hbm, ⟨4, _⟩ => ⟨S8x1x4096x512, .f32⟩
  | .hbm, ⟨5, _⟩ => ⟨S8x1x32x128x4x128, .f32⟩
  | .hbm, ⟨6, _⟩ => ⟨S8x1x1x128x4x128, .f32⟩
  | .hbm, ⟨7, _⟩ => ⟨S_, .f32⟩
  | .hbm, ⟨8, _⟩ => ⟨S8x1x1x128x4x128, .f32⟩
  | .hbm, ⟨9, _⟩ => ⟨S8x1x31x128x4x128, .f32⟩
  | .hbm, ⟨10, _⟩ => ⟨S8x1x32x128x4x128, .f32⟩
  | .hbm, ⟨11, _⟩ => ⟨S8x1x32x256x4x128, .f32⟩
  | .hbm, ⟨12, _⟩ => ⟨S8x1x4096x512, .f32⟩
  | .hbm, ⟨13, _⟩ => ⟨S8x1x32x128x4x128, .f32⟩
  | .hbm, ⟨14, _⟩ => ⟨S8x1x1x128x4x128, .f32⟩
  | .hbm, ⟨15, _⟩ => ⟨S_, .f32⟩
  | .hbm, ⟨16, _⟩ => ⟨S8x1x1x128x4x128, .f32⟩
  | .hbm, ⟨17, _⟩ => ⟨S8x1x31x128x4x128, .f32⟩
  | .hbm, ⟨18, _⟩ => ⟨S8x1x32x128x4x128, .f32⟩
  | .hbm, ⟨19, _⟩ => ⟨S8x1x32x256x4x128, .f32⟩
  | .hbm, ⟨20, _⟩ => ⟨S8x1x32x4x128x256, .f32⟩
  | .hbm, ⟨21, _⟩ => ⟨S_, .f32⟩
  | .hbm, ⟨22, _⟩ => ⟨S8x1x32x4x128x256, .f32⟩
  | .hbm, ⟨23, _⟩ => ⟨S8x1x32x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S32, .i32⟩
  | .hbm, ⟨35, _⟩ => ⟨S32x1x1, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S32x1x256, .i32⟩
  | .hbm, ⟨52, _⟩ => ⟨S32x1x256, .i32⟩
  | .hbm, ⟨53, _⟩ => ⟨S_, .i32⟩
  | .hbm, ⟨54, _⟩ => ⟨S32x1x256, .i32⟩
  | .hbm, ⟨55, _⟩ => ⟨S32x1x256, .i1⟩
  | .hbm, ⟨56, _⟩ => ⟨S1x128x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S4, .f32⟩
  | .hbm, ⟨69, _⟩ => ⟨S4x1x1, .f32⟩
  | .hbm, ⟨70, _⟩ => ⟨S_, .i32⟩
  | .hbm, ⟨71, _⟩ => ⟨S128x256, .i32⟩
  | .hbm, ⟨72, _⟩ => ⟨S128x256, .i32⟩
  | .hbm, ⟨73, _⟩ => ⟨S128x256, .f32⟩
  | .hbm, ⟨74, _⟩ => ⟨S1x128x256, .f32⟩
  | .hbm, ⟨75, _⟩ => ⟨S4x128x256, .f32⟩
  | .hbm, ⟨76, _⟩ => ⟨S4x128x256, .f32⟩
  | .hbm, ⟨77, _⟩ => ⟨S4x128x256, .f32⟩
  | .hbm, ⟨78, _⟩ => ⟨S4x128x256, .f32⟩
  | .hbm, ⟨79, _⟩ => ⟨S32x1x128x256, .i1⟩
  | .hbm, ⟨80, _⟩ => ⟨S1x1x1x4x128x256, .f32⟩
  | .hbm, ⟨81, _⟩ => ⟨S8x1x32x4x128x256, .f32⟩
  | .hbm, ⟨82, _⟩ => ⟨S8x1x32x4x128x256, .f32⟩
  | .hbm, ⟨83, _⟩ => ⟨S_, .f32⟩
  | .hbm, ⟨84, _⟩ => ⟨S_, .f32⟩
  | .hbm, ⟨85, _⟩ => ⟨S8x1x32x4x128x256, .i1⟩
  | .hbm, ⟨86, _⟩ => ⟨S8x1x32x4x128x256, .f32⟩
  | .hbm, ⟨87, _⟩ => ⟨S8x1x32x4x128x256, .f32⟩
  | .hbm, ⟨88, _⟩ => ⟨S_, .f32⟩
  | .hbm, ⟨89, _⟩ => ⟨S8x1x32x4x128, .f32⟩
  | .hbm, ⟨90, _⟩ => ⟨S8x1x32x4x128x1, .f32⟩
  | .hbm, ⟨91, _⟩ => ⟨S8x1x32x4x128x256, .f32⟩
  | .hbm, ⟨92, _⟩ => ⟨S8x1x32x4x128x256, .f32⟩
  | .hbm, ⟨93, _⟩ => ⟨S8x1x32x4x128x256, .f32⟩
  | .hbm, ⟨94, _⟩ => ⟨S_, .f32⟩
  | .hbm, ⟨95, _⟩ => ⟨S8x1x32x4x128, .f32⟩
  | .hbm, ⟨96, _⟩ => ⟨S8x1x32x4x128x1, .f32⟩
  | .hbm, ⟨97, _⟩ => ⟨S8x1x32x4x128x256, .f32⟩
  | .hbm, ⟨98, _⟩ => ⟨S8x1x32x4x128x256, .f32⟩
  | .hbm, ⟨99, _⟩ => ⟨S8x1x32x4x128x128, .f32⟩
  | .hbm, ⟨100, _⟩ => ⟨S8x1x32x128x4x128, .f32⟩
  | .hbm, ⟨101, _⟩ => ⟨S8x4096x4x128, .f32⟩
  | .hbm, ⟨102, _⟩ => ⟨S4x8x4096x128, .f32⟩
  | .hbm, ⟨103, _⟩ => ⟨S8x1x32x4x128, .f32⟩
  | .hbm, ⟨104, _⟩ => ⟨S8x1x32x4x128, .f32⟩
  | .hbm, ⟨105, _⟩ => ⟨S8x32x4x128, .f32⟩
  | .hbm, ⟨106, _⟩ => ⟨S4x8x32x128, .f32⟩
  | .hbm, ⟨107, _⟩ => ⟨S4x8x4096, .f32⟩
  | .hbm, ⟨108, _⟩ => ⟨S4x8x4096x1, .f32⟩
  | .hbm, ⟨109, _⟩ => ⟨S4x8x4096x128, .f32⟩
  | _, _ => ⟨S8x1x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_2 : Ref sig .tc := ⟨.hbm, 36, rfl⟩
abbrev main_v31 : Ref sig .tc := ⟨.hbm, 37, rfl⟩
abbrev main_v32 : Ref sig .tc := ⟨.hbm, 38, rfl⟩
abbrev main_c_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_5 : Ref sig .tc := ⟨.hbm, 50, rfl⟩
abbrev main_v42 : Ref sig .tc := ⟨.hbm, 51, rfl⟩
abbrev main_v43 : Ref sig .tc := ⟨.hbm, 52, rfl⟩
abbrev main_c_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_cst_10 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_11 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_12 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_14 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Mix.lean ====
abbrev S32768x1024 : Shape := ⟨2, ![32768, 1024]⟩
abbrev S4x32768x128 : Shape := ⟨3, ![4, 32768, 128]⟩
abbrev S32768x5120 : Shape := ⟨2, ![32768, 5120]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S8x2x128x128 : Shape := ⟨4, ![8, 2, 128, 128]⟩
abbrev S16x128x128 : Shape := ⟨3, ![16, 128, 128]⟩
abbrev S1024x1024 : Shape := ⟨2, ![1024, 1024]⟩
abbrev S512x1024 : Shape := ⟨2, ![512, 1024]⟩
abbrev S1024 : Shape := ⟨1, ![1024]⟩
abbrev S1024x2048 : Shape := ⟨2, ![1024, 2048]⟩
abbrev S262144x128 : Shape := ⟨2, ![262144, 128]⟩
abbrev S16x128x32768 : Shape := ⟨3, ![16, 128, 32768]⟩
abbrev S256x1024 : Shape := ⟨2, ![256, 1024]⟩
abbrev S4x256x128 : Shape := ⟨3, ![4, 256, 128]⟩
abbrev S2048x128 : Shape := ⟨2, ![2048, 128]⟩
abbrev S16x128x256 : Shape := ⟨3, ![16, 128, 256]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 31
  | .vmem => 32
  | .smem => 0
  | _ => 0

abbrev bufTy : (tb : Table) → Fin (tcTables nBuf tb) → BufTy
  | .hbm, ⟨0, _⟩ => ⟨S32768x1024, .bf16⟩
  | .hbm, ⟨1, _⟩ => ⟨S4x32768x128, .f32⟩
  | .hbm, ⟨2, _⟩ => ⟨S4x32768x128, .f32⟩
  | .hbm, ⟨3, _⟩ => ⟨S4x32768x128, .f32⟩
  | .hbm, ⟨4, _⟩ => ⟨S4x32768x128, .f32⟩
  | .hbm, ⟨5, _⟩ => ⟨S4x32768x128, .f32⟩
  | .hbm, ⟨6, _⟩ => ⟨S4x32768x128, .f32⟩
  | .hbm, ⟨7, _⟩ => ⟨S32768x5120, .bf16⟩
  | .hbm, ⟨8, _⟩ => ⟨S32768x1024, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x2048, .f32⟩
  | .hbm, ⟨14, _⟩ => ⟨S1x8x2x128x128, .f32⟩
  | .hbm, ⟨15, _⟩ => ⟨S8x2x128x128, .f32⟩
  | .hbm, ⟨16, _⟩ => ⟨S16x128x128, .f32⟩
  | .hbm, ⟨17, _⟩ => ⟨S16x128x128, .bf16⟩
  | .hbm, ⟨18, _⟩ => ⟨S1024x1024, .f32⟩
  | .hbm, ⟨19, _⟩ => ⟨S1024x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024x2048, .f32⟩
  | .hbm, ⟨27, _⟩ => ⟨S1024x2048, .bf16⟩
  | .hbm, ⟨28, _⟩ => ⟨S32768x1024, .f32⟩
  | .hbm, ⟨29, _⟩ => ⟨S262144x128, .f32⟩
  | .hbm, ⟨30, _⟩ => ⟨S16x128x32768, .f32⟩
  | .local _ .vmem, ⟨0, _⟩ => ⟨S256x1024, .bf16⟩
  | .local _ .vmem, ⟨1, _⟩ => ⟨S256x1024, .bf16⟩
  | .local _ .vmem, ⟨2, _⟩ => ⟨S4x256x128, .f32⟩
  | .local _ .vmem, ⟨3, _⟩ => ⟨S4x256x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | .local _ .vmem, ⟨8, _⟩ => ⟨S4x256x128, .f32⟩
  | .local _ .vmem, ⟨9, _⟩ => ⟨S4x256x128, .f32⟩
  | .local _ .vmem, ⟨10, _⟩ => ⟨S4x256x128, .f32⟩
  | .local _ .vmem, ⟨11, _⟩ => ⟨S4x256x128, .f32⟩
  | .local _ .vmem, ⟨12, _⟩ => ⟨S4x256x128, .f32⟩
  | .local _ .vmem, ⟨13, _⟩ => ⟨S4x256x128, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S1024x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S1024x2048, .bf16⟩
  | .local _ .vmem, ⟨25, _⟩ => ⟨S16x128x128, .bf16⟩
  | .local _ .vmem, ⟨26, _⟩ => ⟨S256x1024, .f32⟩
  | .local _ .vmem, ⟨27, _⟩ => ⟨S256x1024, .f32⟩
  | .local _ .vmem, ⟨28, _⟩ => ⟨S2048x128, .f32⟩
  | .local _ .vmem, ⟨29, _⟩ => ⟨S2048x128, .f32⟩
  | .local _ .vmem, ⟨30, _⟩ => ⟨S16x128x256, .f32⟩
  | .local _ .vmem, ⟨31, _⟩ => ⟨S16x128x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S32768x1024 : Shape := ⟨2, ![32768, 1024]⟩
abbrev S4x32768x128 : Shape := ⟨3, ![4, 32768, 128]⟩
abbrev S32768x5120 : Shape := ⟨2, ![32768, 5120]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S1x4x32768x128 : Shape := ⟨4, ![1, 4, 32768, 128]⟩
abbrev S3x4x32768x128 : Shape := ⟨4, ![3, 4, 32768, 128]⟩
abbrev S_ : Shape := ⟨0, ![]⟩
abbrev S32768x4x128 : Shape := ⟨3, ![32768, 4, 128]⟩
abbrev S32768x512 : Shape := ⟨2, ![32768, 512]⟩
abbrev S1024x1024 : Shape := ⟨2, ![1024, 1024]⟩
abbrev S512x1024 : Shape := ⟨2, ![512, 1024]⟩
abbrev S32768 : Shape := ⟨1, ![32768]⟩
abbrev S32768x1 : Shape := ⟨2, ![32768, 1]⟩
abbrev S1024 : Shape := ⟨1, ![1024]⟩
abbrev S1024x2048 : Shape := ⟨2, ![1024, 2048]⟩
abbrev S32768x2048 : Shape := ⟨2, ![32768, 2048]⟩
abbrev S32768x8x2x128 : Shape := ⟨4, ![32768, 8, 2, 128]⟩
abbrev S8x2x128x128 : Shape := ⟨4, ![8, 2, 128, 128]⟩
abbrev S8x2x128x32768 : Shape := ⟨4, ![8, 2, 128, 32768]⟩
abbrev S262144x128 : Shape := ⟨2, ![262144, 128]⟩
abbrev S16x128x32768 : Shape := ⟨3, ![16, 128, 32768]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S4x32768x128, .f32⟩
  | .hbm, ⟨2, _⟩ => ⟨S4x32768x128, .f32⟩
  | .hbm, ⟨3, _⟩ => ⟨S4x32768x128, .f32⟩
  | .hbm, ⟨4, _⟩ => ⟨S4x32768x128, .f32⟩
  | .hbm, ⟨5, _⟩ => ⟨S4x32768x128, .f32⟩
  | .hbm, ⟨6, _⟩ => ⟨S4x32768x128, .f32⟩
  | .hbm, ⟨7, _⟩ => ⟨S32768x5120, .bf16⟩
  | .hbm, ⟨8, _⟩ => ⟨S32768x1024, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x2048, .f32⟩
  | .hbm, ⟨14, _⟩ => ⟨S1x8x2x128x128, .f32⟩
  | .hbm, ⟨15, _⟩ => ⟨S32768x1024, .bf16⟩
  | .hbm, ⟨16, _⟩ => ⟨S32768x1024, .f32⟩
  | .hbm, ⟨17, _⟩ => ⟨S32768x1024, .bf16⟩
  | .hbm, ⟨18, _⟩ => ⟨S32768x1024, .f32⟩
  | .hbm, ⟨19, _⟩ => ⟨S1x4x32768x128, .f32⟩
  | .hbm, ⟨20, _⟩ => ⟨S1x4x32768x128, .f32⟩
  | .hbm, ⟨21, _⟩ => ⟨S1x4x32768x128, .f32⟩
  | .hbm, ⟨22, _⟩ => ⟨S3x4x32768x128, .f32⟩
  | .hbm, ⟨23, _⟩ => ⟨S_, .f32⟩
  | .hbm, ⟨24, _⟩ => ⟨S4x32768x128, .f32⟩
  | .hbm, ⟨25, _⟩ => ⟨S1x4x32768x128, .f32⟩
  | .hbm, ⟨26, _⟩ => ⟨S3x4x32768x128, .f32⟩
  | .hbm, ⟨27, _⟩ => ⟨S3x4x32768x128, .f32⟩
  | .hbm, ⟨28, _⟩ => ⟨S3x4x32768x128, .f32⟩
  | .hbm, ⟨29, _⟩ => ⟨S_, .f32⟩
  | .hbm, ⟨30, _⟩ => ⟨S4x32768x128, .f32⟩
  | .hbm, ⟨31, _⟩ => ⟨S1x4x32768x128, .f32⟩
  | .hbm, ⟨32, _⟩ => ⟨S3x4x32768x128, .f32⟩
  | .hbm, ⟨33, _⟩ => ⟨S3x4x32768x128, .f32⟩
  | .hbm, ⟨34, _⟩ => ⟨S1x4x32768x128, .f32⟩
  | .hbm, ⟨35, _⟩ => ⟨S1x4x32768x128, .f32⟩
  | .hbm, ⟨36, _⟩ => ⟨S1x4x32768x128, .f32⟩
  | .hbm, ⟨37, _⟩ => ⟨S3x4x32768x128, .f32⟩
  | .hbm, ⟨38, _⟩ => ⟨S3x4x32768x128, .f32⟩
  | .hbm, ⟨39, _⟩ => ⟨S_, .f32⟩
  | .hbm, ⟨40, _⟩ => ⟨S4x32768x128, .f32⟩
  | .hbm, ⟨41, _⟩ => ⟨S32768x4x128, .f32⟩
  | .hbm, ⟨42, _⟩ => ⟨S32768x512, .f32⟩
  | .hbm, ⟨43, _⟩ => ⟨S32768x1024, .f32⟩
  | .hbm, ⟨44, _⟩ => ⟨S1024x1024, .f32⟩
  | .hbm, ⟨45, _⟩ => ⟨S32768x1024, .f32⟩
  | .hbm, ⟨46, _⟩ => ⟨S512x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S1024x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1, .f32⟩
  | .hbm, ⟨81, _⟩ => ⟨S32768x1024, .f32⟩
  | .hbm, ⟨82, _⟩ => ⟨S32768x1024, .f32⟩
  | .hbm, ⟨83, _⟩ => ⟨S1024, .f32⟩
  | .hbm, ⟨84, _⟩ => ⟨S1x1024, .f32⟩
  | .hbm, ⟨85, _⟩ => ⟨S32768x1024, .f32⟩
  | .hbm, ⟨86, _⟩ => ⟨S32768x1024, .f32⟩
  | .hbm, ⟨87, _⟩ => ⟨S1024x2048, .f32⟩
  | .hbm, ⟨88, _⟩ => ⟨S32768x2048, .f32⟩
  | .hbm, ⟨89, _⟩ => ⟨S32768x8x2x128, .f32⟩
  | .hbm, ⟨90, _⟩ => ⟨S8x2x128x128, .f32⟩
  | .hbm, ⟨91, _⟩ => ⟨S8x2x128x32768, .f32⟩
  | .hbm, ⟨92, _⟩ => ⟨S262144x128, .f32⟩
  | .hbm, ⟨93, _⟩ => ⟨S16x128x32768, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Final.lean ====
abbrev S32768x1024 : Shape := ⟨2, ![32768, 1024]⟩
abbrev S262144x128 : Shape := ⟨2, ![262144, 128]⟩
abbrev S1024 : Shape := ⟨1, ![1024]⟩
abbrev S1x1024 : Shape := ⟨2, ![1, 1024]⟩
abbrev S512x1024 : Shape := ⟨2, ![512, 1024]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S262144x128, .f32⟩
  | .hbm, ⟨2, _⟩ => ⟨S1024, .f32⟩
  | .hbm, ⟨3, _⟩ => ⟨S1x1024, .f32⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S32768x1024 : Shape := ⟨2, ![32768, 1024]⟩
abbrev S262144x128 : Shape := ⟨2, ![262144, 128]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S262144x128, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.ProjBlock.lean ====
/-
  One block of the projection: what the kernel's body leaves in each of its four output blocks, as a function of the
  block of 256 token rows, the gain and the (column-permuted) weight.
-/
module

public import proofs.«01_k».proof.Proof.Gen.ProjIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjIdeal.Block

open Cert.ProjIdeal Cert.ProjIdeal.Gen Idealize.ShloMosaic Idealize.ShloMosaic.TcCoe Idealize.SL.Sem

/-- Row `r` of the normalised block times column `q` of the weight: the one number every store of the body is made of. -/
def rowCol (X : Vec Ideal S256x1024 .f32) (G : Vec Ideal S1x1024 .f32) (W : Vec Ideal S1024x9728 .bf16) (r q : ℕ)
    (hr : r < 256) (hq : q < 9728) : EReal :=
  ∑ k : Fin 1024, (k0_pay2 (F := Ideal) X G (ix2 ⟨r, hr⟩ k) : EReal) * (W (ix2 k ⟨q, hq⟩) : EReal)

/-- Two such sums over the same row and the same column are equal. -/
theorem rowCol_of (X : Vec Ideal S256x1024 .f32) (G : Vec Ideal S1x1024 .f32) (W : Vec Ideal S1024x9728 .bf16) {a a' : Fin 256} {b b' : Fin 9728}
    (ha : a.val = a'.val) (hb : b.val = b'.val) :
    (∑ k : Fin 1024, (k0_pay2 (F := Ideal) X G (ix2 a k) : EReal) * (W (ix2 k b) : EReal))
      = ∑ k : Fin 1024, (k0_pay2 (F := Ideal) X G (ix2 a' k) : EReal) * (W (ix2 k b') : EReal) := by
  rw [Fin.ext ha, Fin.ext hb]

/-- A load of every `d`-th row of plane `c`, over a last store that filled the plane, reads the store's payload at those rows. -/
theorem readCov_plane (v : View sig .tc .vmem S4x256x128 .f32) (c r n d : ℕ) (inb : ∀ a, ![c, 0, 0] a + ![1, 256, 128] a ≤ S4x256x128.size a)
    (w : (⟨3, ![1, 256, 128]⟩ : Shape).Idx → Elt Ideal .f32) (L : List (View.Piece (Elt Ideal) S4x256x128 .f32))
    (inbL) (hn : ∀ y < n, r + y * d < 256) :
    v.readCov (⟨Rect.unit (s := S4x256x128) ![c, 0, 0] ![1, 256, 128] inb, w⟩ :: L) (LoadRect.mk (s := S4x256x128) ![c, r, 0] ![1, n, 128] ![1, d, 1] inbL)
      = fun j : (⟨3, ![1, n, 128]⟩ : Shape).Idx => w (ix3 0 ⟨r + (j 1).val * d, hn _ (j 1).isLt⟩ (j 2)) := by
  rw [View.readCov_eq_canon']
  funext j
  refine Eq.trans ?_ (View.canon_cons_emb (Rect.unit (s := S4x256x128) ![c, 0, 0] ![1, 256, 128] inb) w L _)
  congr 1
  funext a
  apply Fin.ext
  have h0 : (j 0).val = 0 := by have := (j 0).isLt; change (j 0).val < 1 at this; omega
  match a with
  | ⟨0, _⟩ => show c + 1 * (j 0).val = c + 1 * 0; omega
  | ⟨1, _⟩ => show r + d * (j 1).val = 0 + 1 * (r + (j 1).val * d); rw [Nat.mul_comm]; omega
  | ⟨2, _⟩ => show 0 + 1 * (j 2).val = 0 + 1 * (j 2).val; rfl

variable (c : Dev nD) (i : grid0.Coords)
  (arg1 : Memref sig .tc .vmem S256x1024 .f32) (harg1 : arg1.IsWhole) (arg2 : Memref sig .tc .vmem S1x1024 .f32) (harg2 : arg2.IsWhole) (arg3 : Memref sig .tc .vmem S1024x9728 .bf16) (harg3 : arg3.IsWhole)
  (arg4 : Memref sig .tc .vmem S256x5120 .bf16) (harg4 : arg4.IsWhole) (arg5 : Memref sig .tc .vmem S256x1536 .bf16) (harg5 : arg5.IsWhole)
  (arg6 : Memref sig .tc .vmem S1x4x64x1536 .bf16) (harg6 : arg6.IsWhole) (arg7 : Memref sig .tc .vmem S1x16x16x1536 .bf16) (harg7 : arg7.IsWhole)
  (arg8 : Memref sig .tc .vmem S4x256x128 .f32) (harg8 : arg8.IsWhole)
  (X : Vec Ideal S256x1024 .f32) (G : Vec Ideal S1x1024 .f32) (W : Vec Ideal S1024x9728 .bf16)

/-- The block of the first result: its columns are the weight's first 5120. -/
theorem out3 (r : Fin 256) (q : Fin 5120) :
    out0_A_3 c i arg1 harg1 arg2 harg2 arg3 harg3 arg4 harg4 arg5 harg5 arg6 harg6 arg7 harg7 arg8 harg8 X G W (ix2 r q)
      = rowCol X G W r q r.isLt (by omega) := by
  unfold rowCol
  frame_out
  canon_tiles x h
  all_goals open_payloads
  all_goals pointwise
  all_goals
    simp only [ix2_0, ix2_1] at h0 h1
    refine rowCol_of X G W ?_ ?_ <;> (try dsimp only) <;> omega

/-- The block of the second result: the weight's next 1536 columns. -/
theorem out4 (r : Fin 256) (q : Fin 1536) :
    out0_A_4 c i arg1 harg1 arg2 harg2 arg3 harg3 arg4 harg4 arg5 harg5 arg6 harg6 arg7 harg7 arg8 harg8 X G W (ix2 r q)
      = rowCol X G W r (5120 + q) r.isLt (by omega) := by
  unfold rowCol
  frame_out
  canon_tiles x h
  all_goals open_payloads
  all_goals pointwise
  all_goals
    simp only [ix2_0, ix2_1] at h0 h1
    refine rowCol_of X G W ?_ ?_ <;> (try dsimp only) <;> omega

set_option maxHeartbeats 4000000 in
/-- The block of the third result: row `l` of phase `r` is token row `4 l + r`; the weight's next 1536 columns. -/
theorem out5 (r : Fin 4) (l : Fin 64) (q : Fin 1536) :
    out0_A_5 c i arg1 harg1 arg2 harg2 arg3 harg3 arg4 harg4 arg5 harg5 arg6 harg6 arg7 harg7 arg8 harg8 X G W (ix4 0 r l q)
      = rowCol X G W (r + l * 4) (6656 + q) (by omega) (by omega) := by
  unfold rowCol
  frame_open
  simp (disch := decide) only [↓ View.readCov_skip, ↓ View.readCov_cons_toLoadRect, ↓ View.readCov_fill, ↓ readCov_plane]
  frame_out
  canon_tiles x h
  all_goals
    open_payloads
    pointwise
    simp only [ix4_0, ix4_1, ix4_2, ix4_3] at h1 h2 h3
    split_ifs <;> (refine rowCol_of X G W ?_ ?_ <;> (try dsimp only) <;> omega)

end Cert.ProjIdeal.Block

end
-- ==== Proof.ProjSpec.lean ====
/-
  The projection as one formula: a normalised token row times a column of the weight, and the order in which the kernel
  lays out the weight's columns.
-/
module

public import Idealize.ShloMosaic.Lib.Pointwise

@[expose] public section

set_option maxRecDepth 16384

noncomputable section

namespace Cert.ProjSpec

open Idealize.ShloMosaic

/-- The weight's column that stands at column `q` of the kernel's weight: the retention's columns, then the gates', then
    for each attention group its queries, keys and values (512 columns each). -/
def srcCol (q : ℕ) : ℕ :=
  if q < 3072 then q
  else if q < 5120 then q + 4608
  else 3072 + 512 * ((q - 5120) / 1536) + 1536 * ((q - 5120) % 1536 / 512) + (q - 5120) % 512

/-- A column of the kernel's weight is a column of the weight. -/
theorem srcCol_lt {q : ℕ} (h : q < 9728) : srcCol q < 9728 := by
  unfold srcCol; split_ifs <;> omega

/-- Entry `k` of the normalised token `(b, s)`: the token over its root mean square, times the gain. -/
def normed (X : (⟨3, ![8, 4096, 1024]⟩ : Shape).Idx → EReal) (G : (⟨2, ![1, 1024]⟩ : Shape).Idx → EReal)
    (b : Fin 8) (s : Fin 4096) (k : Fin 1024) : EReal :=
  X (ix3 b s k)
    * Ideal.rsqrt (Ideal.div (∑ x : Fin 1024, X (ix3 b s x) * X (ix3 b s x)) (Ideal.ofBits FTy.f32 1149239296#32)
        + Ideal.ofBits FTy.f32 897988541#32)
    * G (ix2 0 k)

/-- The projection of token `(b, s)` on the weight's column `q`. -/
def proj (X : (⟨3, ![8, 4096, 1024]⟩ : Shape).Idx → EReal) (G : (⟨2, ![1, 1024]⟩ : Shape).Idx → EReal)
    (W : (⟨3, ![1, 1024, 9728]⟩ : Shape).Idx → EReal) (b : Fin 8) (s : Fin 4096) (q : Fin 9728) : EReal :=
  ∑ k : Fin 1024, normed X G b s k * W (ix3 0 k q)

/-- Equal coordinates, equal projections. -/
theorem proj_of (X : (⟨3, ![8, 4096, 1024]⟩ : Shape).Idx → EReal) (G : (⟨2, ![1, 1024]⟩ : Shape).Idx → EReal)
    (W : (⟨3, ![1, 1024, 9728]⟩ : Shape).Idx → EReal) {b b' : Fin 8} {s s' : Fin 4096} {q q' : Fin 9728}
    (hb : b.val = b'.val) (hs : s.val = s'.val) (hq : q.val = q'.val) : proj X G W b s q = proj X G W b' s' q' := by
  rw [Fin.ext hb, Fin.ext hs, Fin.ext hq]

/-- The columns from `o` of the kernel's weight, a row per token. -/
def rowsFrom (X : (⟨3, ![8, 4096, 1024]⟩ : Shape).Idx → EReal) (G : (⟨2, ![1, 1024]⟩ : Shape).Idx → EReal)
    (W : (⟨3, ![1, 1024, 9728]⟩ : Shape).Idx → EReal) (n o : ℕ) (h : o + n ≤ 9728) : (⟨2, ![32768, n]⟩ : Shape).Idx → EReal :=
  fun i => proj X G W ⟨(i 0).val / 4096, by have h0 : (i 0).val < 32768 := (i 0).isLt; omega⟩ ⟨(i 0).val % 4096, by omega⟩
    ⟨srcCol (o + (i 1).val), srcCol_lt (by have h1 : (i 1).val < n := (i 1).isLt; omega)⟩

/-- The 1536 columns from `o`, the tokens of a sequence dealt into `d` phases of `n`: row `l` of phase `r` is token `d l + r`. -/
def phasesFrom (X : (⟨3, ![8, 4096, 1024]⟩ : Shape).Idx → EReal) (G : (⟨2, ![1, 1024]⟩ : Shape).Idx → EReal)
    (W : (⟨3, ![1, 1024, 9728]⟩ : Shape).Idx → EReal) (d n o : ℕ) (hd : ∀ l < n, ∀ r < d, l * d + r < 4096) (h : o + 1536 ≤ 9728) :
    (⟨4, ![8, d, n, 1536]⟩ : Shape).Idx → EReal :=
  fun i => proj X G W (i 0) ⟨(i 2).val * d + (i 1).val, hd _ (i 2).isLt _ (i 1).isLt⟩
    ⟨srcCol (o + (i 3).val), srcCol_lt (by have h3 : (i 3).val < 1536 := (i 3).isLt; omega)⟩

end Cert.ProjSpec

end
-- ==== Proof.ProjHost.lean ====
/-
  What the projection's call is handed: the tokens as rows, the gain, and the weight with its columns in the kernel's order.
-/
module

public import proofs.«01_k».proof.Proof.ProjBlock
public import proofs.«01_k».proof.Proof.ProjSpec

@[expose] public section

set_option maxRecDepth 16384

noncomputable section

namespace Cert.ProjIdeal.Host

open Cert.ProjIdeal Cert.ProjIdeal.Gen Idealize.ShloMosaic Idealize.ShloMosaic.TcCoe Idealize.SL.Sem
open Cert.ProjSpec Cert.ProjIdeal.Block

variable (m : (ℓ : Loc nD τ sig) → Buf (Elt Ideal) ℓ) (c : Dev nD)

/-- The token argument. -/
abbrev argX : (⟨3, ![8, 4096, 1024]⟩ : Shape).Idx → EReal := m ((c : Thread nD τ).loc main_arg0)
/-- The gain argument. -/
abbrev argG : (⟨2, ![1, 1024]⟩ : Shape).Idx → EReal := m ((c : Thread nD τ).loc main_arg1)
/-- The weight argument. -/
abbrev argW : (⟨3, ![1, 1024, 9728]⟩ : Shape).Idx → EReal := m ((c : Thread nD τ).loc main_arg2)

/-- Blocks of columns side by side, as the call lays the weight out. -/
def sideBySide (a : Vec Ideal S1024x3072 .f32) (b : Vec Ideal S1024x2048 .f32) (d1 d2 d3 d4 d5 d6 d7 d8 d9 : Vec Ideal S1024x512 .f32) :
    Vec Ideal S1024x9728 .f32 :=
  concatenate S1024x9728 1 [⟨S1024x3072, a⟩, ⟨S1024x2048, b⟩, ⟨S1024x512, d1⟩, ⟨S1024x512, d2⟩, ⟨S1024x512, d3⟩, ⟨S1024x512, d4⟩,
      ⟨S1024x512, d5⟩, ⟨S1024x512, d6⟩, ⟨S1024x512, d7⟩, ⟨S1024x512, d8⟩, ⟨S1024x512, d9⟩]
    concatenates_S1024x3072_S1024x2048_S1024x512_S1024x512_S1024x512_S1024x512_S1024x512_S1024x512_S1024x512_S1024x512_S1024x512_S1024x9728_d1

/-- The weight the call is handed is eleven blocks of columns side by side (the cast changes no value). -/
theorem weight_eq : V m c main_v13 = sideBySide (V m c main_v10) (V m c main_v11) (V m c main_v1) (V m c main_v2) (V m c main_v3)
    (V m c main_v4) (V m c main_v5) (V m c main_v6) (V m c main_v7) (V m c main_v8) (V m c main_v9) := by
  rfl

/-- The weight without its leading axis. -/
theorem flat_apply (k : Fin 1024) (q : Fin 9728) : (V m c main_v0 (ix2 k q) : EReal) = argW m c (ix3 0 k q) := by
  change shapeCast S1024x9728 (argW m c) shapeCasts_S1x1024x9728_S1024x9728 (ix2 k q) = _
  pointwise

/-- A slice of columns of an array. -/
theorem slice_cols {n : ℕ} (o : ℕ) (w : (⟨2, ![1024, 9728]⟩ : Shape).Idx → EReal)
    (hsl : (⟨2, ![1024, 9728]⟩ : Shape).Slices ![0, o] ⟨2, ![1024, n]⟩)
    (k : Fin 1024) (q : Fin n) (q' : Fin 9728) (hq : q'.val = o + q.val) :
    extractStridedSlice ⟨2, ![1024, n]⟩ ![0, o] w hsl (ix2 k q) = w (ix2 k q') := by
  refine congrArg w (funext fun a => Fin.ext ?_)
  match a with
  | ⟨0, _⟩ => show 0 + k.val = k.val; omega
  | ⟨1, _⟩ => show o + q.val = q'.val; omega

/-- `v` holds the columns of `w` from column `o`. -/
def Holds (w : (⟨3, ![1, 1024, 9728]⟩ : Shape).Idx → EReal) {n : ℕ} (o : ℕ) (v : (⟨2, ![1024, n]⟩ : Shape).Idx → EReal) : Prop :=
  ∀ (k : Fin 1024) (q : Fin n) (q' : Fin 9728), q'.val = o + q.val → v (ix2 k q) = w (ix3 0 k q')

/-- A slice of the weight holds its columns from the slice's start. -/
theorem holds_slice {n : ℕ} (o : ℕ) (hsl : (⟨2, ![1024, 9728]⟩ : Shape).Slices ![0, o] ⟨2, ![1024, n]⟩) :
    Holds (argW m c) o (extractStridedSlice ⟨2, ![1024, n]⟩ ![0, o] (V m c main_v0 : (⟨2, ![1024, 9728]⟩ : Shape).Idx → EReal) hsl) :=
  fun k q q' hq => (slice_cols o _ hsl k q q' hq).trans (flat_apply m c k q')

/-- A choice equals `e` when both of its sides do. -/
theorem dite_split {p : Prop} [Decidable p] {α : Type} {f : p → α} {g : ¬p → α} {e : α} (hf : ∀ h, f h = e) (hg : ∀ h, g h = e) :
    (if h : p then f h else g h) = e := by
  by_cases h : p
  · rw [dif_pos h, hf]
  · rw [dif_neg h, hg]

/-- Blocks side by side that hold the weight's columns from these starts are the weight in the kernel's order of columns. -/
theorem sideBySide_apply (w : (⟨3, ![1, 1024, 9728]⟩ : Shape).Idx → EReal) (a : Vec Ideal S1024x3072 .f32) (b : Vec Ideal S1024x2048 .f32)
    (d1 d2 d3 d4 d5 d6 d7 d8 d9 : Vec Ideal S1024x512 .f32)
    (ha : Holds w 0 a) (hb : Holds w 7680 b) (hd1 : Holds w 3072 d1) (hd2 : Holds w 4608 d2) (hd3 : Holds w 6144 d3) (hd4 : Holds w 3584 d4) (hd5 : Holds w 5120 d5) (hd6 : Holds w 6656 d6) (hd7 : Holds w 4096 d7) (hd8 : Holds w 5632 d8) (hd9 : Holds w 7168 d9)
    (k : Fin 1024) (q : Fin 9728) :
    (sideBySide a b d1 d2 d3 d4 d5 d6 d7 d8 d9 (ix2 k q) : EReal) = w (ix3 0 k ⟨srcCol q, srcCol_lt q.isLt⟩) := by
  have hq := q.isLt
  pointwise [sideBySide]
  refine dite_split (fun h => ha k _ _ ?_) fun h => ?_
  · dsimp only; unfold srcCol; split_ifs <;> omega
  refine dite_split (fun h => hb k _ _ ?_) fun h => ?_
  · dsimp only; unfold srcCol; split_ifs <;> omega
  refine dite_split (fun h => hd1 k _ _ ?_) fun h => ?_
  · dsimp only; unfold srcCol; split_ifs <;> omega
  refine dite_split (fun h => hd2 k _ _ ?_) fun h => ?_
  · dsimp only; unfold srcCol; split_ifs <;> omega
  refine dite_split (fun h => hd3 k _ _ ?_) fun h => ?_
  · dsimp only; unfold srcCol; split_ifs <;> omega
  refine dite_split (fun h => hd4 k _ _ ?_) fun h => ?_
  · dsimp only; unfold srcCol; split_ifs <;> omega
  refine dite_split (fun h => hd5 k _ _ ?_) fun h => ?_
  · dsimp only; unfold srcCol; split_ifs <;> omega
  refine dite_split (fun h => hd6 k _ _ ?_) fun h => ?_
  · dsimp only; unfold srcCol; split_ifs <;> omega
  refine dite_split (fun h => hd7 k _ _ ?_) fun h => ?_
  · dsimp only; unfold srcCol; split_ifs <;> omega
  refine dite_split (fun h => hd8 k _ _ ?_) fun h => ?_
  · dsimp only; unfold srcCol; split_ifs <;> omega
  refine hd9 k _ _ ?_
  dsimp only; unfold srcCol; split_ifs <;> omega

/-- Entry `(k, q)` of the weight the call is handed. -/
theorem weight_apply (k : Fin 1024) (q : Fin 9728) :
    (V m c main_v13 (ix2 k q) : EReal) = argW m c (ix3 0 k ⟨srcCol q, srcCol_lt q.isLt⟩) :=
  (congrFun (weight_eq m c) (ix2 k q)).trans <| sideBySide_apply (argW m c) _ _ _ _ _ _ _ _ _ _ _
    (holds_slice m c 0 slices_S1024x9728_S1024x3072_0_0)
    (holds_slice m c 7680 slices_S1024x9728_S1024x2048_0_7680)
    (holds_slice m c 3072 slices_S1024x9728_S1024x512_0_3072)
    (holds_slice m c 4608 slices_S1024x9728_S1024x512_0_4608)
    (holds_slice m c 6144 slices_S1024x9728_S1024x512_0_6144)
    (holds_slice m c 3584 slices_S1024x9728_S1024x512_0_3584)
    (holds_slice m c 5120 slices_S1024x9728_S1024x512_0_5120)
    (holds_slice m c 6656 slices_S1024x9728_S1024x512_0_6656)
    (holds_slice m c 4096 slices_S1024x9728_S1024x512_0_4096)
    (holds_slice m c 5632 slices_S1024x9728_S1024x512_0_5632)
    (holds_slice m c 7168 slices_S1024x9728_S1024x512_0_7168)
    k q

/-- The tokens the call is handed, as rows. -/
theorem tokens_apply (r : Fin 32768) (k : Fin 1024) :
    (V m c main_v14 (ix2 r k) : EReal) = argX m c (ix3 ⟨r.val / 4096, by omega⟩ ⟨r.val % 4096, by omega⟩ k) := by
  change shapeCast S32768x1024 (argX m c) shapeCasts_S8x4096x1024_S32768x1024 (ix2 r k) = _
  pointwise

/-- The gain the call is handed. -/
theorem gain_apply (k : Fin 1024) : (V m c main_v16 (ix2 0 k) : EReal) = argG m c (ix2 0 k) := by
  change shapeCast S1x1024 (shapeCast S1024 (argG m c) shapeCasts_S1x1024_S1024) shapeCasts_S1024_S1x1024 (ix2 0 k) = _
  pointwise

/-- Where the blocks of grid point `t` stand: 256 rows of tokens from row `256 t`, the whole gain, the whole weight. -/
theorem idx_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) := by decide +kernel

/-- A block's row of the projection is the projection of that token on the weight's columns in the kernel's order. -/
theorem rowCol_eq (t : Fin cfg0.N) (r q : ℕ) (hr : r < 256) (hq : q < 9728) (ht : t.val < 128) :
    rowCol (iblk m c 0 t) (iblk m c 1 t) (iblk m c 2 t) r q hr hq
      = proj (argX m c) (argG m c) (argW m c) ⟨(t.val * 256 + r) / 4096, by omega⟩ ⟨(t.val * 256 + r) % 4096, by omega⟩
          ⟨srcCol q, srcCol_lt hq⟩ := by
  have hx : ∀ k : Fin 1024, (iblk m c 0 t (ix2 ⟨r, hr⟩ k) : EReal)
      = argX m c (ix3 ⟨(t.val * 256 + r) / 4096, by omega⟩ ⟨(t.val * 256 + r) % 4096, by omega⟩ k) := by
    intro k
    refine Eq.trans ?_ (tokens_apply m c ⟨t.val * 256 + r, by omega⟩ k)
    blk_ext [iblk, idx_in t]
  have hg : ∀ k : Fin 1024, (iblk m c 1 t (ix2 0 k) : EReal) = argG m c (ix2 0 k) := by
    intro k
    refine Eq.trans ?_ (gain_apply m c k)
    blk_ext [iblk, idx_in t]
  have hw : ∀ k : Fin 1024, (iblk m c 2 t (ix2 k ⟨q, hq⟩) : EReal) = argW m c (ix3 0 k ⟨srcCol q, srcCol_lt hq⟩) := by
    intro k
    refine Eq.trans ?_ (weight_apply m c k ⟨q, hq⟩)
    blk_ext [iblk, idx_in t]
  unfold rowCol proj normed
  refine Finset.sum_congr rfl fun k _ => ?_
  rw [hw]
  congr 1
  pointwise [k0_pay2]
  simp only [hx, hg]

end Cert.ProjIdeal.Host

end
-- ==== Proof.ProjArray.lean ====
/-
  The projection's first three result arrays after the run, each as one function of the arguments.
-/
module

public import proofs.«01_k».proof.Proof.ProjHost

public import proofs.«01_k».proof.Proof.Gen.ProjIdeal.Value

@[expose] public section

set_option maxRecDepth 16384

noncomputable section

namespace Cert.ProjIdeal.Arrays

open Cert.ProjIdeal Cert.ProjIdeal.Gen Idealize.ShloMosaic Idealize.ShloMosaic.TcCoe Idealize.SL.Sem
open Cert.ProjSpec Cert.ProjIdeal.Block Cert.ProjIdeal.Host

variable (m : (ℓ : Loc nD τ sig) → Buf (Elt Ideal) ℓ) (c : Dev nD)

/-- Where the result blocks of grid point `t` stand. -/
theorem idx_out : ∀ t : Fin cfg0.N, (win0_3.index t 0 = t.val ∧ win0_3.index t 1 = 0) ∧ (win0_4.index t 0 = t.val ∧ win0_4.index t 1 = 0)
    ∧ (win0_5.index t 0 = t.val / 16 ∧ win0_5.index t 1 = 0 ∧ win0_5.index t 2 = t.val % 16 ∧ win0_5.index t 3 = 0)
    ∧ (win0_6.index t 0 = t.val / 16 ∧ win0_6.index t 1 = 0 ∧ win0_6.index t 2 = t.val % 16 ∧ win0_6.index t 3 = 0) := by
  decide +kernel

/-- What grid point `t` leaves in result block 1. -/
theorem block3 (t : Fin cfg0.N) (ht : t.val < 128) (r : Fin 256) (q : Fin 5120) :
    ((outsAt0 m c t).1 (ix2 r q) : EReal)
      = proj (argX m c) (argG m c) (argW m c) ⟨(t.val * 256 + (r.val)) / 4096, by omega⟩ ⟨(t.val * 256 + (r.val)) % 4096, by omega⟩
          ⟨srcCol (q.val), srcCol_lt (by omega)⟩ := by
  simp only [outsAt0]
  have h := out3 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) r q
  exact h.trans (rowCol_eq m c t _ _ _ _ ht)

/-- What grid point `t` leaves in result block 2. -/
theorem block4 (t : Fin cfg0.N) (ht : t.val < 128) (r : Fin 256) (q : Fin 1536) :
    ((outsAt0 m c t).2.1 (ix2 r q) : EReal)
      = proj (argX m c) (argG m c) (argW m c) ⟨(t.val * 256 + (r.val)) / 4096, by omega⟩ ⟨(t.val * 256 + (r.val)) % 4096, by omega⟩
          ⟨srcCol (5120 + q.val), srcCol_lt (by omega)⟩ := by
  simp only [outsAt0]
  have h := out4 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) r q
  exact h.trans (rowCol_eq m c t _ _ _ _ ht)

/-- What grid point `t` leaves in result block 3. -/
theorem block5 (t : Fin cfg0.N) (ht : t.val < 128) (r : Fin 4) (l : Fin 64) (q : Fin 1536) :
    ((outsAt0 m c t).2.2.1 (ix4 0 r l q) : EReal)
      = proj (argX m c) (argG m c) (argW m c) ⟨(t.val * 256 + (r.val + l.val * 4)) / 4096, by omega⟩ ⟨(t.val * 256 + (r.val + l.val * 4)) % 4096, by omega⟩
          ⟨srcCol (6656 + q.val), srcCol_lt (by omega)⟩ := by
  simp only [outsAt0]
  have h := out5 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) r l q
  exact h.trans (rowCol_eq m c t _ _ _ _ ht)

/-- The first result's array after the run: the retention's and the gates' columns, token by token. -/
theorem array3 : (dats m 0 c).arrAt 3 cfg0.N = rowsFrom (argX m c) (argG m c) (argW m c) 5120 0 (by omega) := by
  refine (dats m 0 c).arrAt_eq_of_covers 3 _ (by decide +kernel) fun t hf y => ?_
  have ht : t.val < 128 := t.isLt
  have e := idx_out t
  blk_simp
  rw [after0_3]
  obtain ⟨r, q, rfl⟩ : ∃ (r : Fin 256) (q : Fin 5120), y = ix2 r q := ⟨y 0, y 1, eq_ix2 y⟩
  refine (block3 m c t ht r q).trans ?_
  refine proj_of _ _ _ ?_ ?_ ?_
  all_goals
    dsimp only
    blk_simp
    simp only [e, Nat.zero_mul, Nat.zero_add]
    try omega

/-- The second result's array: the first attention group's columns, token by token. -/
theorem array4 : (dats m 0 c).arrAt 4 cfg0.N = rowsFrom (argX m c) (argG m c) (argW m c) 1536 5120 (by omega) := by
  refine (dats m 0 c).arrAt_eq_of_covers 4 _ (by decide +kernel) fun t hf y => ?_
  have ht : t.val < 128 := t.isLt
  have e := idx_out t
  blk_simp
  rw [after0_4]
  obtain ⟨r, q, rfl⟩ : ∃ (r : Fin 256) (q : Fin 1536), y = ix2 r q := ⟨y 0, y 1, eq_ix2 y⟩
  refine (block4 m c t ht r q).trans ?_
  refine proj_of _ _ _ ?_ ?_ ?_
  all_goals
    dsimp only
    blk_simp
    simp only [e, Nat.zero_mul, Nat.zero_add]
    try omega

/-- The third result's array: the second attention group's columns, four phases of the tokens. -/
theorem array5 : (dats m 0 c).arrAt 5 cfg0.N = phasesFrom (argX m c) (argG m c) (argW m c) 4 1024 6656 (by omega) (by omega) := by
  refine (dats m 0 c).arrAt_eq_of_covers 5 _ (by decide +kernel) fun t hf y => ?_
  have ht : t.val < 128 := t.isLt
  have e := idx_out t
  blk_simp
  rw [after0_5]
  obtain ⟨b, r, l, q, rfl⟩ : ∃ (b : Fin 1) (r : Fin 4) (l : Fin 64) (q : Fin 1536), y = ix4 b r l q := ⟨y 0, y 1, y 2, y 3, eq_ix4 y⟩
  obtain rfl : b = 0 := Subsingleton.elim _ _
  refine (block5 m c t ht r l q).trans ?_
  refine proj_of _ _ _ ?_ ?_ ?_
  all_goals
    dsimp only
    blk_simp
    simp only [e, Nat.zero_mul, Nat.zero_add]
    try omega

end Cert.ProjIdeal.Arrays

end
-- ==== Proof.ProjBlockWide.lean ====
/-
  The projection's fourth output block, beside ProjBlock.lean: 48 stores, sixteen phases of each of three chunks of columns.
-/
module

public import proofs.«01_k».proof.Proof.ProjBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjIdeal.Block

open Cert.ProjIdeal Cert.ProjIdeal.Gen Idealize.ShloMosaic Idealize.ShloMosaic.TcCoe Idealize.SL.Sem

variable (c : Dev nD) (i : grid0.Coords)
  (arg1 : Memref sig .tc .vmem S256x1024 .f32) (harg1 : arg1.IsWhole) (arg2 : Memref sig .tc .vmem S1x1024 .f32) (harg2 : arg2.IsWhole) (arg3 : Memref sig .tc .vmem S1024x9728 .bf16) (harg3 : arg3.IsWhole)
  (arg4 : Memref sig .tc .vmem S256x5120 .bf16) (harg4 : arg4.IsWhole) (arg5 : Memref sig .tc .vmem S256x1536 .bf16) (harg5 : arg5.IsWhole)
  (arg6 : Memref sig .tc .vmem S1x4x64x1536 .bf16) (harg6 : arg6.IsWhole) (arg7 : Memref sig .tc .vmem S1x16x16x1536 .bf16) (harg7 : arg7.IsWhole)
  (arg8 : Memref sig .tc .vmem S4x256x128 .f32) (harg8 : arg8.IsWhole)
  (X : Vec Ideal S256x1024 .f32) (G : Vec Ideal S1x1024 .f32) (W : Vec Ideal S1024x9728 .bf16)

/-- A choice is equal to what both its branches are equal to. -/
theorem dite_cases {α : Type} {p : Prop} [Decidable p] {f : p → α} {g : ¬p → α} {e : α} (hf : ∀ h, f h = e) (hg : ∀ h, g h = e) :
    (if h : p then f h else g h) = e := by
  split_ifs with h
  exacts [hf h, hg h]

/-- Four planes of 128 columns side by side. -/
theorem beside (f0 f1 f2 f3 : FVec Ideal S16x128 .f32) (l : Fin 16) (c : Fin 512) :
    (concatenate S16x512 1 [⟨S16x128, f0⟩, ⟨S16x128, f1⟩, ⟨S16x128, f2⟩, ⟨S16x128, f3⟩] concatenates_S16x128_S16x128_S16x128_S16x128_S16x512_d1
        (ix2 l c) : EReal)
      = if h0 : c.val < 128 then f0 (ix2 l ⟨c.val, h0⟩) else if h1 : c.val - 128 < 128 then f1 (ix2 l ⟨c.val - 128, h1⟩)
        else if h2 : c.val - 128 - 128 < 128 then f2 (ix2 l ⟨c.val - 128 - 128, h2⟩) else f3 (ix2 l ⟨c.val - 128 - 128 - 128, by omega⟩) := by
  pointwise

/-- A plane without its leading axis. -/
theorem flat_plane (g : Vec Ideal S1x16x128 .f32) (l : Fin 16) (c : Fin 128) :
    (shapeCast S16x128 g shapeCasts_S1x16x128_S16x128 (ix2 l c) : EReal) = g (ix3 0 l c) := by
  pointwise

/-- A chunk of sixteen rows with two leading axes. -/
theorem lead (g : FVec Ideal S16x512 .bf16) (x : S1x1x16x512.Idx) :
    (shapeCast S1x1x16x512 g shapeCasts_S16x512_S1x1x16x512 x : EReal) = g (ix2 (x 2) (x 3)) := by
  pointwise

/-- The rows of phase `p` of a 512-column product, cut into four planes of 128 columns, each read with a stride of 16 rows, and put side
by side again: entry by entry the product's row `p + 16 l`. -/
theorem narrow (X : Vec Ideal S256x1024 .f32) (G : Vec Ideal S1x1024 .f32) (U : FVec Ideal S1024x512 .bf16) (p : ℕ)
    (hp : ∀ l : Fin 16, p + l.val * 16 < 256) (x : S1x1x16x512.Idx) :
    (shapeCast S1x1x16x512
      (truncf FTy.bf16
        (concatenate S16x512 1
          [⟨S16x128, shapeCast S16x128 (fun j : S1x16x128.Idx => shapeCast S1x256x128
                (extractStridedSlice S256x128 ![0, 0] (matmul dot_S256x1024_S1024x512_S256x512_1_0_0_1_n_n none (k0_pay2 (F := Ideal) X G)
                  (shapeCast S1024x512 U shapeCasts_S1024x512_S1024x512) (constant S256x512 FTy.f32 0#32)) slices_S256x512_o0_0_S256x128)
                shapeCasts_S256x128_S1x256x128 (ix3 0 ⟨p + (j 1).val * 16, hp (j 1)⟩ (j 2))) shapeCasts_S1x16x128_S16x128⟩,
            ⟨S16x128, shapeCast S16x128 (fun j : S1x16x128.Idx => shapeCast S1x256x128
                (extractStridedSlice S256x128 ![0, 128] (matmul dot_S256x1024_S1024x512_S256x512_1_0_0_1_n_n none (k0_pay2 (F := Ideal) X G)
                  (shapeCast S1024x512 U shapeCasts_S1024x512_S1024x512) (constant S256x512 FTy.f32 0#32)) slices_S256x512_o0_128_S256x128)
                shapeCasts_S256x128_S1x256x128 (ix3 0 ⟨p + (j 1).val * 16, hp (j 1)⟩ (j 2))) shapeCasts_S1x16x128_S16x128⟩,
            ⟨S16x128, shapeCast S16x128 (fun j : S1x16x128.Idx => shapeCast S1x256x128
                (extractStridedSlice S256x128 ![0, 256] (matmul dot_S256x1024_S1024x512_S256x512_1_0_0_1_n_n none (k0_pay2 (F := Ideal) X G)
                  (shapeCast S1024x512 U shapeCasts_S1024x512_S1024x512) (constant S256x512 FTy.f32 0#32)) slices_S256x512_o0_256_S256x128)
                shapeCasts_S256x128_S1x256x128 (ix3 0 ⟨p + (j 1).val * 16, hp (j 1)⟩ (j 2))) shapeCasts_S1x16x128_S16x128⟩,
            ⟨S16x128, shapeCast S16x128 (fun j : S1x16x128.Idx => shapeCast S1x256x128
                (extractStridedSlice S256x128 ![0, 384] (matmul dot_S256x1024_S1024x512_S256x512_1_0_0_1_n_n none (k0_pay2 (F := Ideal) X G)
                  (shapeCast S1024x512 U shapeCasts_S1024x512_S1024x512) (constant S256x512 FTy.f32 0#32)) slices_S256x512_o0_384_S256x128)
                shapeCasts_S256x128_S1x256x128 (ix3 0 ⟨p + (j 1).val * 16, hp (j 1)⟩ (j 2))) shapeCasts_S1x16x128_S16x128⟩]
          concatenates_S16x128_S16x128_S16x128_S16x128_S16x512_d1)
        bitsLt_bf16_f32)
      shapeCasts_S16x512_S1x1x16x512 x : EReal)
      = ∑ k : Fin 1024, (k0_pay2 (F := Ideal) X G (ix2 ⟨p + (x 2).val * 16, hp (x 2)⟩ k) : EReal) * (U (ix2 k (x 3)) : EReal) := by
  generalize k0_pay2 (F := Ideal) X G = A
  refine (lead _ x).trans ?_
  refine (beside _ _ _ _ (x 2) (x 3)).trans ?_
  refine dite_cases (fun h0 => ?_) fun h0 => dite_cases (fun h1 => ?_) fun h1 => dite_cases (fun h2 => ?_) fun h2 => ?_
  all_goals
    refine (flat_plane _ _ _).trans ?_
    pointwise
    try
      refine Finset.sum_congr rfl fun k _ => congrArg₂ (· * ·) rfl (congrArg (fun n => U (ix2 k n)) (Fin.ext ?_))
      dsimp only
      omega

set_option maxHeartbeats 16000000 in
/-- The block of the fourth result: row `l` of phase `r` is token row `16 l + r`; the weight's last 1536 columns. -/
theorem out6 (r : Fin 16) (l : Fin 16) (q : Fin 1536) :
    out0_A_6 c i arg1 harg1 arg2 harg2 arg3 harg3 arg4 harg4 arg5 harg5 arg6 harg6 arg7 harg7 arg8 harg8 X G W (ix4 0 r l q)
      = rowCol X G W (r + l * 16) (8192 + q) (by omega) (by omega) := by
  unfold rowCol
  frame_open
  simp (disch := decide) only [↓ View.readCov_skip, ↓ View.readCov_cons_toLoadRect, ↓ View.readCov_fill, ↓ readCov_plane]
  frame_out
  canon_tiles x h
  all_goals (
    open_payloads
    simp only [ix4_0, ix4_1, ix4_2, ix4_3] at h1 h2 h3
    refine (narrow X G _ _ (fun l => by omega) x).trans ?_
    pointwise
    refine rowCol_of X G W ?_ ?_ <;> (try dsimp only) <;> omega)

end Cert.ProjIdeal.Block

end
-- ==== Proof.ProjArrayWide.lean ====
/-
  The projection's fourth result array after the run, as a function of the arguments.
-/
module

public import proofs.«01_k».proof.Proof.ProjArray
public import proofs.«01_k».proof.Proof.ProjBlockWide

@[expose] public section

set_option maxRecDepth 16384

noncomputable section

namespace Cert.ProjIdeal.Arrays

open Cert.ProjIdeal Cert.ProjIdeal.Gen Idealize.ShloMosaic Idealize.ShloMosaic.TcCoe Idealize.SL.Sem
open Cert.ProjSpec Cert.ProjIdeal.Block Cert.ProjIdeal.Host

variable (m : (ℓ : Loc nD τ sig) → Buf (Elt Ideal) ℓ) (c : Dev nD)

/-- What grid point `t` leaves in result block 4. -/
theorem block6 (t : Fin cfg0.N) (ht : t.val < 128) (r : Fin 16) (l : Fin 16) (q : Fin 1536) :
    ((outsAt0 m c t).2.2.2 (ix4 0 r l q) : EReal)
      = proj (argX m c) (argG m c) (argW m c) ⟨(t.val * 256 + (r.val + l.val * 16)) / 4096, by omega⟩ ⟨(t.val * 256 + (r.val + l.val * 16)) % 4096, by omega⟩
          ⟨srcCol (8192 + q.val), srcCol_lt (by omega)⟩ := by
  simp only [outsAt0]
  have h := out6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) r l q
  exact h.trans (rowCol_eq m c t _ _ _ _ ht)

/-- The fourth result's array: the third attention group's columns, sixteen phases of the tokens. -/
theorem array6 : (dats m 0 c).arrAt 6 cfg0.N = phasesFrom (argX m c) (argG m c) (argW m c) 16 256 8192 (by omega) (by omega) := by
  refine (dats m 0 c).arrAt_eq_of_covers 6 _ (by decide +kernel) fun t hf y => ?_
  have ht : t.val < 128 := t.isLt
  have e := idx_out t
  blk_simp
  rw [after0_6]
  obtain ⟨b, r, l, q, rfl⟩ : ∃ (b : Fin 1) (r : Fin 16) (l : Fin 16) (q : Fin 1536), y = ix4 b r l q := ⟨y 0, y 1, y 2, y 3, eq_ix4 y⟩
  obtain rfl : b = 0 := Subsingleton.elim _ _
  refine (block6 m c t ht r l q).trans ?_
  refine proj_of _ _ _ ?_ ?_ ?_
  all_goals
    dsimp only
    blk_simp
    simp only [e, Nat.zero_mul, Nat.zero_add]
    try omega

end Cert.ProjIdeal.Arrays

end
-- ==== Proof.ProjRef.lean ====
/-
  The reference's four arrays of the projection, read at an entry.
-/
module

public import proofs.«01_k».proof.Proof.Gen.ProjRefIdeal.Read
public import proofs.«01_k».proof.Proof.ProjSpec

@[expose] public section

set_option maxRecDepth 16384

noncomputable section

namespace Cert.ProjRefIdeal.Entry

open Cert.ProjRefIdeal Cert.ProjRefIdeal.Gen Cert.ProjRefIdeal.Read Idealize.ShloMosaic Idealize.ShloMosaic.TcCoe Idealize.SL.Sem
open Cert.ProjSpec

variable (X : (⟨3, ![8, 4096, 1024]⟩ : Shape).Idx → EReal) (G : (⟨2, ![1, 1024]⟩ : Shape).Idx → EReal)
  (W : (⟨3, ![1, 1024, 9728]⟩ : Shape).Idx → EReal)

/-- The reference's normalised tokens. -/
theorem normed_eq (b : Fin 8) (s : Fin 4096) (k : Fin 1024) : (val_main_v13 (F := Ideal) X G (ix3 b s k) : EReal) = normed X G b s k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The reference's product. -/
theorem product_eq (b : Fin 8) (s : Fin 4096) (q : Fin 9728) : (val_main_v15 (F := Ideal) X G W (ix3 b s q) : EReal) = proj X G W b s q := by
  refine (val_main_v15_apply X G W _).trans ?_
  unfold proj
  refine Finset.sum_congr rfl fun k _ => ?_
  have hl : lidx_main_v15 (ix3 b s q) k = ix3 b s k := funext fun a => match a with | ⟨0, _⟩ => rfl | ⟨1, _⟩ => rfl | ⟨2, _⟩ => rfl
  have hr : ridx_main_v15 (ix3 b s q) k = ix2 k q := funext fun a => match a with | ⟨0, _⟩ => rfl | ⟨1, _⟩ => rfl
  rw [hl, hr, normed_eq]
  congr 1
  pointwise [val_main_v14]

/-- The product at any index. -/
theorem product_at (i : (⟨3, ![8, 4096, 9728]⟩ : Shape).Idx) : (val_main_v15 (F := Ideal) X G W i : EReal) = proj X G W (i 0) (i 1) (i 2) :=
  (congrArg (val_main_v15 (F := Ideal) X G W) (eq_ix3 i)).trans (product_eq X G W (i 0) (i 1) (i 2))

/-- The retention's and the gates' columns side by side. -/
theorem main_cols (b : Fin 8) (s : Fin 4096) (q : Fin 5120) :
    (val_main_v25 (F := Ideal) X G W (ix3 b s q) : EReal) = proj X G W b s ⟨srcCol (0 + q), srcCol_lt (by omega)⟩ := by
  pointwise [val_main_v25]
  simp only [val_main_v16_apply, val_main_v17_apply, val_main_v18_apply, val_main_v19_apply, val_main_v23_apply, val_main_v24_apply, product_at]
  split_ifs <;> refine proj_of X G W ?_ ?_ ?_ <;> dsimp only <;> simp only [ix3_0, ix3_1, ix3_2]
  all_goals unfold srcCol; split_ifs <;> omega

/-- The first attention group's queries, keys and values side by side. -/
theorem group0_cols (b : Fin 8) (s : Fin 4096) (q : Fin 1536) :
    (val_main_v30 (F := Ideal) X G W (ix3 b s q) : EReal) = proj X G W b s ⟨srcCol (5120 + q), srcCol_lt (by omega)⟩ := by
  pointwise [val_main_v30]
  simp only [val_main_v27_apply, val_main_v28_apply, val_main_v29_apply, val_main_v20_apply, val_main_v21_apply, val_main_v22_apply, product_at]
  split_ifs <;> refine proj_of X G W ?_ ?_ ?_ <;> dsimp only <;> simp only [ix3_0, ix3_1, ix3_2]
  all_goals unfold srcCol; split_ifs <;> omega

/-- The second attention group's queries, keys and values side by side. -/
theorem group1_cols (b : Fin 8) (s : Fin 4096) (q : Fin 1536) :
    (val_main_v35 (F := Ideal) X G W (ix3 b s q) : EReal) = proj X G W b s ⟨srcCol (6656 + q), srcCol_lt (by omega)⟩ := by
  pointwise [val_main_v35]
  simp only [val_main_v32_apply, val_main_v33_apply, val_main_v34_apply, val_main_v20_apply, val_main_v21_apply, val_main_v22_apply, product_at]
  split_ifs <;> refine proj_of X G W ?_ ?_ ?_ <;> dsimp only <;> simp only [ix3_0, ix3_1, ix3_2]
  all_goals unfold srcCol; split_ifs <;> omega

/-- The third attention group's queries, keys and values side by side. -/
theorem group2_cols (b : Fin 8) (s : Fin 4096) (q : Fin 1536) :
    (val_main_v41 (F := Ideal) X G W (ix3 b s q) : EReal) = proj X G W b s ⟨srcCol (8192 + q), srcCol_lt (by omega)⟩ := by
  pointwise [val_main_v41]
  simp only [val_main_v38_apply, val_main_v39_apply, val_main_v40_apply, val_main_v20_apply, val_main_v21_apply, val_main_v22_apply, product_at]
  split_ifs <;> refine proj_of X G W ?_ ?_ ?_ <;> dsimp only <;> simp only [ix3_0, ix3_1, ix3_2]
  all_goals unfold srcCol; split_ifs <;> omega

/-- The first result: the retention's and the gates' columns, token by token. -/
theorem out44 : (val_main_v44 (F := Ideal) X G W : (⟨2, ![32768, 5120]⟩ : Shape).Idx → EReal) = rowsFrom X G W 5120 0 (by omega) := by
  funext i
  rw [val_main_v44_apply, val_main_v26_apply]
  refine (congrArg (val_main_v25 (F := Ideal) X G W) (eq_ix3 _)).trans ((main_cols X G W _ _ _).trans (proj_of X G W ?_ ?_ ?_))
  all_goals
    have h0 : (i 0).val < 32768 := (i 0).isLt
    have h1 : (i 1).val < 5120 := (i 1).isLt
  · show ((i 0).val * 5120 + (i 1).val) / 20971520 = (i 0).val / 4096
    omega
  · show ((i 0).val * 5120 + (i 1).val) / 5120 % 4096 = (i 0).val % 4096
    omega
  · refine congrArg (fun z => srcCol (_ + z)) ?_
    show ((i 0).val * 5120 + (i 1).val) % 5120 = (i 1).val
    omega

/-- The second result: the first attention group's columns, token by token. -/
theorem out45 : (val_main_v45 (F := Ideal) X G W : (⟨2, ![32768, 1536]⟩ : Shape).Idx → EReal) = rowsFrom X G W 1536 5120 (by omega) := by
  funext i
  rw [val_main_v45_apply, val_main_v31_apply]
  refine (congrArg (val_main_v30 (F := Ideal) X G W) (eq_ix3 _)).trans ((group0_cols X G W _ _ _).trans (proj_of X G W ?_ ?_ ?_))
  all_goals
    have h0 : (i 0).val < 32768 := (i 0).isLt
    have h1 : (i 1).val < 1536 := (i 1).isLt
  · show ((i 0).val * 1536 + (i 1).val) / 6291456 = (i 0).val / 4096
    omega
  · show ((i 0).val * 1536 + (i 1).val) / 1536 % 4096 = (i 0).val % 4096
    omega
  · refine congrArg (fun z => srcCol (_ + z)) ?_
    show ((i 0).val * 1536 + (i 1).val) % 1536 = (i 1).val
    omega

/-- The third result: the second attention group's columns, four phases of the tokens. -/
theorem out46 : (val_main_v46 (F := Ideal) X G W : (⟨4, ![8, 4, 1024, 1536]⟩ : Shape).Idx → EReal) = phasesFrom X G W 4 1024 6656 (by omega) (by omega) := by
  funext i
  rw [val_main_v46_apply, val_main_v37_apply, val_main_v36_apply]
  refine (congrArg (val_main_v35 (F := Ideal) X G W) (eq_ix3 _)).trans ((group1_cols X G W _ _ _).trans (proj_of X G W ?_ ?_ ?_))
  all_goals
    have h0 : (i 0).val < 8 := (i 0).isLt
    have h1 : (i 1).val < 4 := (i 1).isLt
    have h2 : (i 2).val < 1024 := (i 2).isLt
    have h3 : (i 3).val < 1536 := (i 3).isLt
  · show ((((i 0).val * 1024 + (i 2).val) * 4 + (i 1).val) * 1536 + (i 3).val) / 6291456 = (i 0).val
    omega
  · show ((((i 0).val * 1024 + (i 2).val) * 4 + (i 1).val) * 1536 + (i 3).val) / 1536 % 4096 = (i 2).val * 4 + (i 1).val
    omega
  · refine congrArg (fun z => srcCol (_ + z)) ?_
    show ((((i 0).val * 1024 + (i 2).val) * 4 + (i 1).val) * 1536 + (i 3).val) % 1536 = (i 3).val
    omega

/-- The fourth result: the third attention group's columns, sixteen phases of the tokens. -/
theorem out47 : (val_main_v47 (F := Ideal) X G W : (⟨4, ![8, 16, 256, 1536]⟩ : Shape).Idx → EReal) = phasesFrom X G W 16 256 8192 (by omega) (by omega) := by
  funext i
  rw [val_main_v47_apply, val_main_v43_apply, val_main_v42_apply]
  refine (congrArg (val_main_v41 (F := Ideal) X G W) (eq_ix3 _)).trans ((group2_cols X G W _ _ _).trans (proj_of X G W ?_ ?_ ?_))
  all_goals
    have h0 : (i 0).val < 8 := (i 0).isLt
    have h1 : (i 1).val < 16 := (i 1).isLt
    have h2 : (i 2).val < 256 := (i 2).isLt
    have h3 : (i 3).val < 1536 := (i 3).isLt
  · show ((((i 0).val * 256 + (i 2).val) * 16 + (i 1).val) * 1536 + (i 3).val) / 6291456 = (i 0).val
    omega
  · show ((((i 0).val * 256 + (i 2).val) * 16 + (i 1).val) * 1536 + (i 3).val) / 1536 % 4096 = (i 2).val * 16 + (i 1).val
    omega
  · refine congrArg (fun z => srcCol (_ + z)) ?_
    show ((((i 0).val * 256 + (i 2).val) * 16 + (i 1).val) * 1536 + (i 3).val) % 1536 = (i 3).val
    omega

end Cert.ProjRefIdeal.Entry

end
-- ==== Proof.ProjEq.lean ====
/-
  The projection's equation: the kernel's four arrays are the reference's.
-/
module

public import proofs.«01_k».proof.Defs
public import proofs.«01_k».proof.Proof.ProjArrayWide
public import proofs.«01_k».proof.Proof.ProjRef
public import proofs.«01_k».proof.Proof.Gen.ProjRefIdeal.Run
public import Idealize.ShloMosaic.Lib.Quiescent

@[expose] public section

set_option maxRecDepth 16384

noncomputable section

namespace Cert.ProjEq

open Idealize.ShloMosaic Idealize.ShloMosaic.TcCoe Idealize.SL.Sem
open Cert.ProjSpec Cert.ProjIdeal.Host Cert.ProjIdeal.Arrays

/-- The kernel's run leaves the specification's four arrays and keeps its arguments. -/
theorem kernel_run (m : (ℓ : Loc Cert.ProjIdeal.nD Cert.ProjIdeal.τ Cert.ProjIdeal.sig) → Buf (Elt Ideal) ℓ) (ρ : Dev Cert.ProjIdeal.nD → PrngReg) :
    θ_run (Cert.ProjIdeal.defs (F := Ideal)) (onTc (τ := Cert.ProjIdeal.τ) (Cert.ProjIdeal.main (F := Ideal))) ⟨m, fun _ => 0, ρ⟩ fun r => ∀ c : Dev Cert.ProjIdeal.nD,
      r.2.mem ((c.tc : Thread Cert.ProjIdeal.nD Cert.ProjIdeal.τ).loc Cert.ProjIdeal.main_v17_0) = rowsFrom (argX m c) (argG m c) (argW m c) 5120 0 (by omega)
      ∧ r.2.mem ((c.tc : Thread Cert.ProjIdeal.nD Cert.ProjIdeal.τ).loc Cert.ProjIdeal.main_v17_1) = rowsFrom (argX m c) (argG m c) (argW m c) 1536 5120 (by omega)
      ∧ r.2.mem ((c.tc : Thread Cert.ProjIdeal.nD Cert.ProjIdeal.τ).loc Cert.ProjIdeal.main_v17_2) = phasesFrom (argX m c) (argG m c) (argW m c) 4 1024 6656 (by omega) (by omega)
      ∧ r.2.mem ((c.tc : Thread Cert.ProjIdeal.nD Cert.ProjIdeal.τ).loc Cert.ProjIdeal.main_v17_3) = phasesFrom (argX m c) (argG m c) (argW m c) 16 256 8192 (by omega) (by omega)
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2) := by
  refine (θ_run Cert.ProjIdeal.defs _ _).mono (fun r h c => ?_) (Cert.ProjIdeal.Value.run_blocks (F := Ideal) m ρ)
  obtain ⟨h0, h1, h2, h3, k0, k1, k2⟩ := h c
  exact ⟨h0.trans (array3 m c), h1.trans (array4 m c), h2.trans (array5 m c), h3.trans (array6 m c), k0, k1, k2⟩

/-- The projection's value claim: from arguments that agree, both runs end with the same four arrays. -/
theorem algebraic : Cert.algebraic_ProjIdeal_ProjRefIdeal := by
  intro m ρ m' ρ' _ hagree
  refine ⟨fun c => rowsFrom (argX m c) (argG m c) (argW m c) 5120 0 (by omega), fun c => rowsFrom (argX m c) (argG m c) (argW m c) 1536 5120 (by omega),
    fun c => phasesFrom (argX m c) (argG m c) (argW m c) 4 1024 6656 (by omega) (by omega),
    fun c => phasesFrom (argX m c) (argG m c) (argW m c) 16 256 8192 (by omega) (by omega), kernel_run m ρ, ?_⟩
  refine (θ_run Cert.ProjRefIdeal.defs _ _).mono (fun r h c => ?_) (Cert.ProjRefIdeal.Value.run (F := Ideal) m' ρ')
  obtain ⟨h0, h1, h2, h3, k0, k1, k2⟩ := h c
  obtain ⟨a0, a1, a2⟩ := hagree c
  have e0 := (Cert.ProjRefIdeal.Read.val_main_v44_eq (F := Ideal) m' c).trans (Cert.ProjRefIdeal.Entry.out44 _ _ _)
  have e1 := Cert.ProjRefIdeal.Entry.out45 (m' ((c.tc : Thread Cert.ProjRefIdeal.nD Cert.ProjRefIdeal.τ).loc Cert.ProjRefIdeal.main_arg0))
    (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
  have e2 := Cert.ProjRefIdeal.Entry.out46 (m' ((c.tc : Thread Cert.ProjRefIdeal.nD Cert.ProjRefIdeal.τ).loc Cert.ProjRefIdeal.main_arg0))
    (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
  have e3 := Cert.ProjRefIdeal.Entry.out47 (m' ((c.tc : Thread Cert.ProjRefIdeal.nD Cert.ProjRefIdeal.τ).loc Cert.ProjRefIdeal.main_arg0))
    (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
  rw [← Cert.ProjRefIdeal.Read.val_main_v45_eq] at e1
  rw [← Cert.ProjRefIdeal.Read.val_main_v46_eq] at e2
  rw [← Cert.ProjRefIdeal.Read.val_main_v47_eq] at e3
  rw [a0, a1, a2] at e0 e1 e2 e3
  refine ⟨h0.trans e0, h1.trans ?_, h2.trans ?_, h3.trans ?_, k0, k1, k2⟩
  · rw [a0, a1, a2]
    exact e1
  · rw [a0, a1, a2]
    exact e2
  · rw [a0, a1, a2]
    exact e3

/-- The reference runs and keeps its arguments. -/
theorem reference_frame : Cert.quiescent_ProjRefIdeal := fun m ρ _ =>
  (θ_run Cert.ProjRefIdeal.defs _ _).mono
    (fun r h => ⟨fun c => ⟨(h c).2.2.2.2.1, (h c).2.2.2.2.2.1, (h c).2.2.2.2.2.2⟩, sem_eq_zero_of_no_sems (by decide) r.2⟩)
    (Cert.ProjRefIdeal.Value.run (F := Ideal) m ρ)

end Cert.ProjEq

end
-- ==== Proof.AttSpec.lean ====
/-
  Windowed attention over two neighbouring blocks of 128 positions, as plain sums: what one query position sees.
-/
module

public import Idealize.ShloMosaic.Lib.Pipeline.ValueKit
public import Idealize.ShloMosaic.Lib.Pointwise

@[expose] public section

set_option maxRecDepth 16384

noncomputable section

namespace Cert.AttSpec

open Idealize.ShloMosaic Idealize.ShloMosaic.TcCoe

/-- The slope of head `h`, as the programs' constant. -/
def slope (h : Fin 4) : EReal :=
  match h with
  | ⟨0, _⟩ => Ideal.ofBits FTy.f32 0x3F214518#32
  | ⟨1, _⟩ => Ideal.ofBits FTy.f32 0x3ECB2FF5#32
  | ⟨2, _⟩ => Ideal.ofBits FTy.f32 0x3E800000#32
  | ⟨3, _⟩ => Ideal.ofBits FTy.f32 0x3E214518#32

/-- Whether row `q` of block `n` may look at place `j` of the two blocks: at most 128 positions back, not ahead, and not before the start. -/
def Valid (n q j : ℕ) : Prop := q ≤ j ∧ j ≤ q + 128 ∧ (128 ≤ j ∨ 0 < n)

instance (n q j : ℕ) : Decidable (Valid n q j) := inferInstanceAs (Decidable (_ ∧ _ ∧ _))

/-- The distance as a number of the word the programs compute it in. -/
def word (q j : ℕ) : BitVec 32 := IntOp.subi (IntOp.addi (BitVec.ofNat 32 q) 128#32) (BitVec.ofNat 32 j)

/-- The distance, as a number. -/
theorem word_toInt (q j : ℕ) (hq : q < 128) (hj : j < 256) : (word q j).toInt = (q : ℤ) + 128 - j := by
  unfold word IntOp.subi IntOp.addi
  rw [BitVec.toInt_eq_toNat_cond]
  simp only [BitVec.toNat_sub, BitVec.toNat_add, BitVec.toNat_ofNat]
  split_ifs <;> omega

/-- The programs' mask is the window. -/
theorem mask_eq (n q j : ℕ) (hn : n < 32) (hq : q < 128) (hj : j < 256) :
    IntOp.andi (IntOp.andi (IntOp.cmpi CmpIPredicate.sge (word q j) 0#32) (IntOp.cmpi CmpIPredicate.sle (word q j) 128#32))
      (IntOp.ori (IntOp.cmpi CmpIPredicate.sge (BitVec.ofNat 32 j) 128#32) (IntOp.cmpi CmpIPredicate.sgt (BitVec.ofNat 32 n) 0#32))
      = if Valid n q j then 1#1 else 0#1 := by
  have hw := word_toInt q j hq hj
  have hj' : (BitVec.ofNat 32 j).toInt = j := by
    rw [BitVec.toInt_eq_toNat_cond]
    simp only [BitVec.toNat_ofNat]
    split_ifs <;> omega
  have hn' : (BitVec.ofNat 32 n).toInt = n := by
    rw [BitVec.toInt_eq_toNat_cond]
    simp only [BitVec.toNat_ofNat]
    split_ifs <;> omega
  have z : (0#32 : BitVec 32).toInt = 0 := by decide
  have o : (128#32 : BitVec 32).toInt = 128 := by decide
  have e1 : (0#32 : BitVec 32).sle (word q j) = decide (j ≤ q + 128) := by
    rw [BitVec.sle_eq_decide, hw, z]; exact decide_eq_decide.2 (by omega)
  have e2 : (word q j).sle 128#32 = decide (q ≤ j) := by
    rw [BitVec.sle_eq_decide, hw, o]; exact decide_eq_decide.2 (by omega)
  have e3 : (128#32 : BitVec 32).sle (BitVec.ofNat 32 j) = decide (128 ≤ j) := by
    rw [BitVec.sle_eq_decide, hj', o]; exact decide_eq_decide.2 (by omega)
  have e4 : (0#32 : BitVec 32).slt (BitVec.ofNat 32 n) = decide (0 < n) := by
    rw [BitVec.slt_eq_decide, hn', z]; exact decide_eq_decide.2 (by omega)
  simp only [IntOp.cmpi, e1, e2, e3, e4]
  unfold Valid IntOp.andi IntOp.ori
  by_cases a : q ≤ j <;> by_cases b : j ≤ q + 128 <;> by_cases d : 128 ≤ j <;> by_cases f : 0 < n <;> simp [a, b, d, f]

variable (A : (⟨4, ![8, 1, 4096, 1536]⟩ : Shape).Idx → EReal)

/-- The position of place `j` of the two blocks that end with block `n` (of block `0` twice, at `n = 0`). -/
def keyAt (n : Fin 32) (j : Fin 256) : Fin 4096 :=
  ⟨if j.val < 128 then (n.val - 1) * 128 + j.val else n.val * 128 + (j.val - 128), by split_ifs <;> omega⟩

/-- The position of row `q` of block `n`. -/
def rowAt (n : Fin 32) (q : Fin 128) : Fin 4096 := ⟨n.val * 128 + q.val, by omega⟩

/-- Component `d` of head `h` of section `sec` (queries, keys, values). -/
def comp (sec : Fin 3) (h : Fin 4) (d : Fin 128) : Fin 1536 := ⟨sec.val * 512 + (h.val * 128 + d.val), by omega⟩

/-- Query times key. -/
def dot (h : Fin 4) (b : Fin 8) (s t : Fin 4096) : EReal :=
  ∑ d : Fin 128, A (ix4 b 0 s (comp 0 h d)) * A (ix4 b 0 t (comp 1 h d))

/-- The score of place `j` for row `q` of block `n`: the scaled product less slope times distance, inside the window. -/
def score (h : Fin 4) (b : Fin 8) (n : Fin 32) (q : Fin 128) (j : Fin 256) : EReal :=
  if Valid n q j then dot A h b (rowAt n q) (keyAt n j) * Ideal.ofBits FTy.f32 1035273459#32 - slope h * (((q : ℤ) + 128 - j : ℤ) : ℝ) else ⊥

/-- The largest score. -/
def top (h : Fin 4) (b : Fin 8) (n : Fin 32) (q : Fin 128) : EReal := Finset.fold max ⊥ (score A h b n q) Finset.univ

/-- The weight of place `j`, not yet divided by their sum. -/
def weight (h : Fin 4) (b : Fin 8) (n : Fin 32) (q : Fin 128) (j : Fin 256) : EReal := Ideal.exp (score A h b n q j - top A h b n q)

/-- The sum of the weights. -/
def den (h : Fin 4) (b : Fin 8) (n : Fin 32) (q : Fin 128) : EReal := ∑ j : Fin 256, weight A h b n q j

/-- The attention's result for one query row: the weighted mean of the values. -/
def mean (h : Fin 4) (b : Fin 8) (n : Fin 32) (q d : Fin 128) : EReal :=
  Ideal.div (∑ j : Fin 256, weight A h b n q j * A (ix4 b 0 (keyAt n j) (comp 2 h d))) (den A h b n q)

/-- The log of the sum of the exponentials of a row's scores. -/
def logSum (h : Fin 4) (b : Fin 8) (n : Fin 32) (q : Fin 128) : EReal := top A h b n q + Ideal.log (den A h b n q)

/-- The block of a position. -/
def blockOf (s : Fin 4096) : Fin 32 := ⟨s.val / 128, by omega⟩

/-- The row of a position in its block. -/
def rowOf (s : Fin 4096) : Fin 128 := ⟨s.val % 128, by omega⟩

/-- The array of results, by head, batch and position. -/
def means : (⟨4, ![4, 8, 4096, 128]⟩ : Shape).Idx → EReal := fun i => mean A (i 0) (i 1) (blockOf (i 2)) (rowOf (i 2)) (i 3)

/-- The array of log-sums, repeated along the last axis. -/
def logSums : (⟨4, ![4, 8, 4096, 128]⟩ : Shape).Idx → EReal := fun i => logSum A (i 0) (i 1) (blockOf (i 2)) (rowOf (i 2))

end Cert.AttSpec

end
-- ==== Proof.AttBlock.lean ====
/-
  One block of the windowed attention: what the kernel's body leaves in its two output blocks, as a function of the block of queries and
  the previous and current blocks of keys and values.
-/
module

public import proofs.«01_k».proof.Proof.Gen.AttIdeal.Frame
public import proofs.«01_k».proof.Proof.AttSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttIdeal.Block

open Cert.AttIdeal Cert.AttIdeal.Gen Idealize.ShloMosaic Idealize.ShloMosaic.TcCoe Idealize.SL.Sem
open Cert.AttSpec (slope)

/-- A product of query and key `s`, scaled, biased by the distance and masked, for the query in row `q` and the key in place `j` of the two
blocks at block number `n`. -/
def biased (n q j : ℕ) (sl s : EReal) : EReal :=
  Scalar.select
    (IntOp.andi
      (IntOp.andi (IntOp.cmpi CmpIPredicate.sge (IntOp.subi (IntOp.addi (BitVec.ofNat 32 q) 128#32) (BitVec.ofNat 32 j)) 0#32)
        (IntOp.cmpi CmpIPredicate.sle (IntOp.subi (IntOp.addi (BitVec.ofNat 32 q) 128#32) (BitVec.ofNat 32 j)) 128#32))
      (IntOp.ori (IntOp.cmpi CmpIPredicate.sge (BitVec.ofNat 32 j) 128#32) (Scalar.cmpi CmpIPredicate.sgt (BitVec.ofNat 32 n) 0#32)))
    (s * Ideal.ofBits FTy.f32 1035273459#32
      - sl * FloatOps.sitofp (F := Ideal) FTy.f32 (IntOp.muli 1#32 (IntOp.subi (IntOp.addi (BitVec.ofNat 32 q) 128#32) (BitVec.ofNat 32 j))))
    (Ideal.ofBits FTy.f32 4286578688#32)

variable (n : ℕ) (x0 x1 x2 x3 x4 : Vec Ideal S4x1x128x512 .bf16) (h b : Fin 4) (q : Fin 128)

/-- The column of head `h` and component `d`. -/
def col (h : Fin 4) (d : Fin 128) : Fin 512 :=
  match h with
  | ⟨0, _⟩ => ⟨d.val, by omega⟩
  | ⟨1, _⟩ => ⟨128 + d.val, by omega⟩
  | ⟨2, _⟩ => ⟨256 + d.val, by omega⟩
  | ⟨3, _⟩ => ⟨384 + d.val, by omega⟩

/-- The column's number. -/
theorem col_val (h : Fin 4) (d : Fin 128) : (col h d).val = h.val * 128 + d.val := by
  fin_cases h <;> simp [col]

/-- Query times key `j` of one block of keys. -/
def dotK (x0 x1 : Vec Ideal S4x1x128x512 .bf16) (h b : Fin 4) (q j : Fin 128) : EReal :=
  ∑ d : Fin 128, (x0 (ix4 b 0 q (col h d)) : EReal) * (x1 (ix4 b 0 j (col h d)) : EReal)

/-- The biased scores of row `q` against the two blocks of keys. -/
def score (j : Fin 256) : EReal :=
  if hj : j.val < 128 then biased n q j (slope h) (dotK x0 x1 h b q ⟨j.val, hj⟩)
  else biased n q j (slope h) (dotK x0 x2 h b q ⟨j.val - 128, by omega⟩)

/-- Value `j` of the two blocks of values. -/
def value (j : Fin 256) (d : Fin 128) : EReal :=
  if hj : j.val < 128 then (x3 (ix4 b 0 ⟨j.val, hj⟩ (col h d)) : EReal) else (x4 (ix4 b 0 ⟨j.val - 128, by omega⟩ (col h d)) : EReal)

/-- The largest score of row `q`. -/
def top : EReal := Finset.fold max (Ideal.ofBits FTy.f32 4286578688#32) (score n x0 x1 x2 h b q) Finset.univ

/-- The unnormalised weight of key `j`. -/
def weight (j : Fin 256) : EReal := Ideal.exp (score n x0 x1 x2 h b q j - top n x0 x1 x2 h b q)

/-- The row's sum of weights. -/
def den : EReal := ∑ j : Fin 256, weight n x0 x1 x2 h b q j

/-- The largest score, with the choice between the two blocks of keys made inside the product. -/
theorem top_eq : top n x0 x1 x2 h b q
    = Finset.fold max (Ideal.ofBits FTy.f32 4286578688#32) (fun j : Fin 256 => biased n q j (slope h)
        (∑ d : Fin 128, (x0 (ix4 b 0 q (col h d)) : EReal)
          * (if hj : j.val < 128 then (x1 (ix4 b 0 ⟨j.val, hj⟩ (col h d)) : EReal) else (x2 (ix4 b 0 ⟨j.val - 128, by omega⟩ (col h d)) : EReal)))) Finset.univ := by
  unfold top
  congr 1
  funext j
  unfold score dotK
  split_ifs <;> rfl

/-- The weight of a key of the previous block. -/
theorem weight_prev (j : Fin 128) : weight n x0 x1 x2 h b q (Fin.castAdd 128 j)
    = Ideal.exp (biased n q j (slope h) (dotK x0 x1 h b q j) - top n x0 x1 x2 h b q) := by
  unfold weight score
  rw [dif_pos (by simp)]
  rfl

/-- The weight of a key of the current block. -/
theorem weight_cur (j : Fin 128) : weight n x0 x1 x2 h b q (Fin.natAdd 128 j)
    = Ideal.exp (biased n q (128 + j) (slope h) (dotK x0 x2 h b q j) - top n x0 x1 x2 h b q) := by
  unfold weight score
  rw [dif_neg (by simp)]
  have e : (⟨(Fin.natAdd 128 j).val - 128, by simp⟩ : Fin 128) = j := Fin.ext (by simp)
  rw [e]
  rfl

/-- A value of the previous block. -/
theorem value_prev (j : Fin 128) (d : Fin 128) : value x3 x4 h b (Fin.castAdd 128 j) d = x3 (ix4 b 0 j (col h d)) := by
  unfold value
  rw [dif_pos (by simp)]
  rfl

/-- A value of the current block. -/
theorem value_cur (j : Fin 128) (d : Fin 128) : value x3 x4 h b (Fin.natAdd 128 j) d = x4 (ix4 b 0 j (col h d)) := by
  unfold value
  rw [dif_neg (by simp)]
  have e : (⟨(Fin.natAdd 128 j).val - 128, by simp⟩ : Fin 128) = j := Fin.ext (by simp)
  rw [e]

/-- The sum of weights, block by block. -/
theorem den_split : den n x0 x1 x2 h b q
    = ∑ j : Fin 128, Ideal.exp (biased n q j (slope h) (dotK x0 x1 h b q j) - top n x0 x1 x2 h b q)
      + ∑ j : Fin 128, Ideal.exp (biased n q (128 + j) (slope h) (dotK x0 x2 h b q j) - top n x0 x1 x2 h b q) := by
  unfold den
  refine (Fin.sum_univ_add (fun j : Fin (128 + 128) => weight n x0 x1 x2 h b q j)).trans ?_
  simp only [weight_prev, weight_cur]

/-- The weighted sum of values, block by block. -/
theorem num_split (d : Fin 128) : ∑ j : Fin 256, weight n x0 x1 x2 h b q j * value x3 x4 h b j d
    = ∑ j : Fin 128, Ideal.exp (biased n q j (slope h) (dotK x0 x1 h b q j) - top n x0 x1 x2 h b q) * (x3 (ix4 b 0 j (col h d)) : EReal)
      + ∑ j : Fin 128, Ideal.exp (biased n q (128 + j) (slope h) (dotK x0 x2 h b q j) - top n x0 x1 x2 h b q)
          * (x4 (ix4 b 0 j (col h d)) : EReal) := by
  refine (Fin.sum_univ_add (fun j : Fin (128 + 128) => weight n x0 x1 x2 h b q j * value x3 x4 h b j d)).trans ?_
  simp only [weight_prev, weight_cur, value_prev, value_cur]

set_option maxHeartbeats 4000000 in
/-- What the body leaves in the block of results. -/
theorem out5 (i : grid0.Coords) (d : Fin 128) :
    (out0_5 i x0 x1 x2 x3 x4 (ix4 h b q d) : EReal)
      = Ideal.div (∑ j : Fin 256, weight (i 1).val x0 x1 x2 h b q j * value x3 x4 h b j d) (den (i 1).val x0 x1 x2 h b q) := by
  rw [num_split, den_split, top_eq]
  unfold out0_5
  canon_tiles x hx
  all_goals (
    obtain rfl : x 2 = q := Fin.ext (by simpa using hx2.symm)
    obtain rfl : x 3 = d := Fin.ext (by simpa using hx3.symm)
    fin_cases h <;> first
      | (exfalso; simp at hx0 <;> omega)
      | (fin_cases b <;> first
          | (exfalso; simp at hx1 <;> omega)
          | (open_payloads
             pointwise
             rfl)))

set_option maxHeartbeats 4000000 in
/-- What the body leaves in the block of log-sums. -/
theorem out6 (i : grid0.Coords) (d : Fin 128) :
    (out0_6 i x0 x1 x2 x3 x4 (ix4 h b q d) : EReal) = top (i 1).val x0 x1 x2 h b q + Ideal.log (den (i 1).val x0 x1 x2 h b q) := by
  rw [den_split, top_eq]
  unfold out0_6
  canon_tiles x hx
  all_goals (
    obtain rfl : x 2 = q := Fin.ext (by simpa using hx2.symm)
    fin_cases h <;> first
      | (exfalso; simp at hx0 <;> omega)
      | (fin_cases b <;> first
          | (exfalso; simp at hx1 <;> omega)
          | (open_payloads
             pointwise
             rfl)))

end Cert.AttIdeal.Block

end
-- ==== Proof.AttArray.lean ====
/-
  The attention's two result arrays after the run, each as one function of the argument.
-/
module

public import proofs.«01_k».proof.Proof.AttBlock
public import proofs.«01_k».proof.Proof.Gen.AttIdeal.Value

@[expose] public section

set_option maxRecDepth 16384

noncomputable section

namespace Cert.AttIdeal.Arrays

open Cert.AttIdeal Cert.AttIdeal.Gen Idealize.ShloMosaic Idealize.ShloMosaic.TcCoe Idealize.SL.Sem
open Cert.AttSpec (slope Valid word word_toInt mask_eq keyAt rowAt comp blockOf rowOf means logSums)
open Cert.AttIdeal.Block (biased dotK col col_val)

variable (m : (ℓ : Loc nD τ sig) → Buf (Elt Ideal) ℓ) (c : Dev nD)

/-- The argument: queries, keys and values side by side, by batch, phase and position. -/
def argA : (⟨4, ![8, 1, 4096, 1536]⟩ : Shape).Idx → EReal := m ((c.tc : Thread nD τ).loc main_arg0)

/-- Where the blocks of grid point `t` stand: four batches, block `t % 32` or the one before it, one of the three sections. -/
theorem idx_in : ∀ t : Fin cfg0.N,
    (win0_0.index t 0 = t.val / 32 ∧ win0_0.index t 1 = 0 ∧ win0_0.index t 2 = t.val % 32 ∧ win0_0.index t 3 = 0)
    ∧ (win0_1.index t 0 = t.val / 32 ∧ win0_1.index t 1 = 0 ∧ win0_1.index t 2 = t.val % 32 - 1 ∧ win0_1.index t 3 = 1)
    ∧ (win0_2.index t 0 = t.val / 32 ∧ win0_2.index t 1 = 0 ∧ win0_2.index t 2 = t.val % 32 ∧ win0_2.index t 3 = 1)
    ∧ (win0_3.index t 0 = t.val / 32 ∧ win0_3.index t 1 = 0 ∧ win0_3.index t 2 = t.val % 32 - 1 ∧ win0_3.index t 3 = 2)
    ∧ (win0_4.index t 0 = t.val / 32 ∧ win0_4.index t 1 = 0 ∧ win0_4.index t 2 = t.val % 32 ∧ win0_4.index t 3 = 2) := by
  decide +kernel

/-- Where the result blocks of grid point `t` stand. -/
theorem idx_out : ∀ t : Fin cfg0.N,
    (win0_5.index t 0 = 0 ∧ win0_5.index t 1 = t.val / 32 ∧ win0_5.index t 2 = t.val % 32 ∧ win0_5.index t 3 = 0)
    ∧ (win0_6.index t 0 = 0 ∧ win0_6.index t 1 = t.val / 32 ∧ win0_6.index t 2 = t.val % 32 ∧ win0_6.index t 3 = 0)
    ∧ (grid0.coords t 1).val = t.val % 32 := by
  decide +kernel

/-- The batch of row `b` of grid point `t`. -/
def batch (t : Fin cfg0.N) (b : Fin 4) : Fin 8 := ⟨t.val / 32 * 4 + b.val, by have : t.val < 64 := t.isLt; omega⟩

/-- The block number of grid point `t`. -/
def blk (t : Fin cfg0.N) : Fin 32 := ⟨t.val % 32, by omega⟩

/-- The queries' block. -/
theorem queries (t : Fin cfg0.N) (h b : Fin 4) (q d : Fin 128) :
    (iblk m c 0 t (ix4 b 0 q (col h d)) : EReal) = argA m c (ix4 (batch t b) 0 (rowAt (blk t) q) (comp 0 h d)) := by
  have e := idx_in t
  have hc := col_val h d
  refine Eq.trans ?_ (congrFun (V_main_arg0 m c) _)
  blk_ext [iblk, e, hc, batch, blk, rowAt, comp]

/-- The previous block of keys. -/
theorem keys_prev (t : Fin cfg0.N) (h b : Fin 4) (j : Fin 256) (hj : j.val < 128) (d : Fin 128) :
    (iblk m c 1 t (ix4 b 0 ⟨j.val, hj⟩ (col h d)) : EReal) = argA m c (ix4 (batch t b) 0 (keyAt (blk t) j) (comp 1 h d)) := by
  have e := idx_in t
  have hc := col_val h d
  refine Eq.trans ?_ (congrFun (V_main_arg0 m c) _)
  blk_ext [iblk, e, hc, batch, blk, keyAt, comp, hj, if_true, if_false]

/-- The current block of keys. -/
theorem keys_cur (t : Fin cfg0.N) (h b : Fin 4) (j : Fin 256) (hj : ¬j.val < 128) (d : Fin 128) :
    (iblk m c 2 t (ix4 b 0 ⟨j.val - 128, by omega⟩ (col h d)) : EReal) = argA m c (ix4 (batch t b) 0 (keyAt (blk t) j) (comp 1 h d)) := by
  have e := idx_in t
  have hc := col_val h d
  refine Eq.trans ?_ (congrFun (V_main_arg0 m c) _)
  blk_ext [iblk, e, hc, batch, blk, keyAt, comp, hj, if_true, if_false]

/-- The previous block of values. -/
theorem values_prev (t : Fin cfg0.N) (h b : Fin 4) (j : Fin 256) (hj : j.val < 128) (d : Fin 128) :
    (iblk m c 3 t (ix4 b 0 ⟨j.val, hj⟩ (col h d)) : EReal) = argA m c (ix4 (batch t b) 0 (keyAt (blk t) j) (comp 2 h d)) := by
  have e := idx_in t
  have hc := col_val h d
  refine Eq.trans ?_ (congrFun (V_main_arg0 m c) _)
  blk_ext [iblk, e, hc, batch, blk, keyAt, comp, hj, if_true, if_false]

/-- The current block of values. -/
theorem values_cur (t : Fin cfg0.N) (h b : Fin 4) (j : Fin 256) (hj : ¬j.val < 128) (d : Fin 128) :
    (iblk m c 4 t (ix4 b 0 ⟨j.val - 128, by omega⟩ (col h d)) : EReal) = argA m c (ix4 (batch t b) 0 (keyAt (blk t) j) (comp 2 h d)) := by
  have e := idx_in t
  have hc := col_val h d
  refine Eq.trans ?_ (congrFun (V_main_arg0 m c) _)
  blk_ext [iblk, e, hc, batch, blk, keyAt, comp, hj, if_true, if_false]

/-- The body's scaled, biased and masked product is the window's score. -/
theorem biased_eq (n q j : ℕ) (hn : n < 32) (hq : q < 128) (hj : j < 256) (sl s : EReal) :
    biased n q j sl s = if Valid n q j then s * Ideal.ofBits FTy.f32 1035273459#32 - sl * (((q : ℤ) + 128 - j : ℤ) : ℝ) else ⊥ := by
  have hm := mask_eq n q j hn hq hj
  have hw := word_toInt q j hq hj
  have h1 : IntOp.muli 1#32 (word q j) = word q j := by simp [IntOp.muli]
  have hb : Ideal.ofBits FTy.f32 4286578688#32 = ⊥ := by simp [Ideal.ofBits, Ideal.ieee]
  unfold biased
  change Scalar.select (IntOp.andi (IntOp.andi (IntOp.cmpi CmpIPredicate.sge (word q j) 0#32) (IntOp.cmpi CmpIPredicate.sle (word q j) 128#32))
      (IntOp.ori (IntOp.cmpi CmpIPredicate.sge (BitVec.ofNat 32 j) 128#32) (IntOp.cmpi CmpIPredicate.sgt (BitVec.ofNat 32 n) 0#32)))
    (s * Ideal.ofBits FTy.f32 1035273459#32 - sl * (((IntOp.muli 1#32 (word q j)).toInt : ℝ) : EReal)) _ = _
  rw [hm, h1, hw, hb]
  split_ifs <;> simp [Scalar.select]

/-- The body's scores at grid point `t`. -/
theorem score_eq (t : Fin cfg0.N) (h b : Fin 4) (q : Fin 128) (j : Fin 256) :
    Block.score (t.val % 32) (iblk m c 0 t) (iblk m c 1 t) (iblk m c 2 t) h b q j = Cert.AttSpec.score (argA m c) h (batch t b) (blk t) q j := by
  unfold Block.score Cert.AttSpec.score
  have hb : ∀ sl s, biased (t.val % 32) q j sl s = _ := fun sl s => biased_eq (t.val % 32) q.val j.val (by omega) q.isLt j.isLt sl s
  simp only [hb]
  have hv : (Valid (t.val % 32) q j) = Valid (blk t) q j := rfl
  simp only [hv]
  by_cases v : Valid (blk t) q j
  swap
  · simp [v]
  simp only [if_pos v]
  by_cases hj : j.val < 128
  · rw [dif_pos hj]
    congr 2
    unfold dotK Cert.AttSpec.dot
    exact Finset.sum_congr rfl fun d _ => congrArg₂ (· * ·) (queries m c t h b q d) (keys_prev m c t h b j hj d)
  · rw [dif_neg hj]
    congr 2
    unfold dotK Cert.AttSpec.dot
    exact Finset.sum_congr rfl fun d _ => congrArg₂ (· * ·) (queries m c t h b q d) (keys_cur m c t h b j hj d)

/-- The body's values at grid point `t`. -/
theorem value_eq (t : Fin cfg0.N) (h b : Fin 4) (j : Fin 256) (d : Fin 128) :
    Block.value (iblk m c 3 t) (iblk m c 4 t) h b j d = argA m c (ix4 (batch t b) 0 (keyAt (blk t) j) (comp 2 h d)) := by
  unfold Block.value
  split_ifs with hj
  · exact values_prev m c t h b j hj d
  · exact values_cur m c t h b j hj d

/-- The body's largest score at grid point `t`. -/
theorem top_eq (t : Fin cfg0.N) (h b : Fin 4) (q : Fin 128) :
    Block.top (t.val % 32) (iblk m c 0 t) (iblk m c 1 t) (iblk m c 2 t) h b q = Cert.AttSpec.top (argA m c) h (batch t b) (blk t) q := by
  have hb : Ideal.ofBits FTy.f32 4286578688#32 = ⊥ := by simp [Ideal.ofBits, Ideal.ieee]
  unfold Block.top Cert.AttSpec.top
  rw [hb]
  exact congrArg (fun f => Finset.fold max ⊥ f Finset.univ) (funext fun j => score_eq m c t h b q j)

/-- The body's weights at grid point `t`. -/
theorem weight_eq (t : Fin cfg0.N) (h b : Fin 4) (q : Fin 128) (j : Fin 256) :
    Block.weight (t.val % 32) (iblk m c 0 t) (iblk m c 1 t) (iblk m c 2 t) h b q j = Cert.AttSpec.weight (argA m c) h (batch t b) (blk t) q j := by
  unfold Block.weight Cert.AttSpec.weight
  rw [score_eq, top_eq]

/-- The body's sum of weights at grid point `t`. -/
theorem den_eq (t : Fin cfg0.N) (h b : Fin 4) (q : Fin 128) :
    Block.den (t.val % 32) (iblk m c 0 t) (iblk m c 1 t) (iblk m c 2 t) h b q = Cert.AttSpec.den (argA m c) h (batch t b) (blk t) q :=
  Finset.sum_congr rfl fun j _ => weight_eq m c t h b q j

/-- The array of results after the run. -/
theorem array5 : (dats m 0 c).arrAt 5 cfg0.N = means (argA m c) := by
  refine (dats m 0 c).arrAt_eq_of_covers 5 _ (by decide +kernel) fun t hf y => ?_
  have ht : t.val < 64 := t.isLt
  have e := idx_out t
  blk_simp
  rw [after0_5]
  obtain ⟨h, b, q, d, rfl⟩ : ∃ (h : Fin 4) (b : Fin 4) (q : Fin 128) (d : Fin 128), y = ix4 h b q d := ⟨y 0, y 1, y 2, y 3, eq_ix4 y⟩
  refine (Block.out5 _ _ _ _ _ h b q (grid0.coords t) d).trans ?_
  rw [e.2.2, den_eq, Finset.sum_congr rfl fun j _ => congrArg₂ (· * ·) (weight_eq m c t h b q j) (value_eq m c t h b j d)]
  unfold means
  change Cert.AttSpec.mean (argA m c) h (batch t b) (blk t) q d = _
  congr 1 <;> apply Fin.ext
  all_goals
    simp only [batch, blk, blockOf, rowOf]
    blk_simp
    simp only [e, Nat.zero_mul, Nat.zero_add]
    try omega

/-- The array of log-sums after the run. -/
theorem array6 : (dats m 0 c).arrAt 6 cfg0.N = logSums (argA m c) := by
  refine (dats m 0 c).arrAt_eq_of_covers 6 _ (by decide +kernel) fun t hf y => ?_
  have ht : t.val < 64 := t.isLt
  have e := idx_out t
  blk_simp
  rw [after0_6]
  obtain ⟨h, b, q, d, rfl⟩ : ∃ (h : Fin 4) (b : Fin 4) (q : Fin 128) (d : Fin 128), y = ix4 h b q d := ⟨y 0, y 1, y 2, y 3, eq_ix4 y⟩
  refine (Block.out6 _ _ _ _ _ h b q (grid0.coords t) d).trans ?_
  rw [e.2.2, den_eq, top_eq]
  unfold logSums
  change Cert.AttSpec.logSum (argA m c) h (batch t b) (blk t) q = _
  congr 1 <;> apply Fin.ext
  all_goals
    simp only [batch, blk, blockOf, rowOf]
    blk_simp
    simp only [e, Nat.zero_mul, Nat.zero_add]
    try omega

end Cert.AttIdeal.Arrays

end
-- ==== Proof.AttMean.lean ====
/-
  On finite queries, keys and values: a place outside the window weighs nothing, the weights sum to a positive number, and
  dividing each weight before the mean is dividing the mean.
-/
module

public import proofs.«01_k».proof.Proof.AttSpec

@[expose] public section

set_option maxRecDepth 16384

noncomputable section

namespace Cert.AttSpec

open Idealize.ShloMosaic Idealize.ShloMosaic.TcCoe

/-- The value is a real number. -/
def IsReal (x : EReal) : Prop := ∃ r : ℝ, x = (r : EReal)

/-- Neither infinity: a real number. -/
theorem isReal_of {x : EReal} (h1 : x ≠ ⊥) (h2 : x ≠ ⊤) : IsReal x := ⟨x.toReal, (EReal.coe_toReal h2 h1).symm⟩

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A difference of reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The sum of numbers, taken as extended reals. -/
theorem coe_sum {ι : Type} [DecidableEq ι] (s : Finset ι) (f : ι → ℝ) : ∑ i ∈ s, ((f i : ℝ) : EReal) = ((∑ i ∈ s, f i : ℝ) : EReal) := by
  induction s using Finset.induction_on with
  | empty => simp
  | insert a s ha ih => rw [Finset.sum_insert ha, Finset.sum_insert ha, ih, EReal.coe_add]

/-- A sum of reals is real. -/
theorem isReal_sum {ι : Type} [Fintype ι] [DecidableEq ι] {f : ι → EReal} (h : ∀ i, IsReal (f i)) : IsReal (∑ i, f i) := by
  choose g hg using h
  exact ⟨∑ i, g i, by rw [← coe_sum]; exact Finset.sum_congr rfl fun i _ => hg i⟩

/-- The scale is a real number. -/
theorem isReal_scale : IsReal (Ideal.ofBits FTy.f32 1035273459#32) := by
  simp only [Ideal.ofBits, Ideal.ieee]
  simp
  exact IsReal.mul ⟨_, rfl⟩ ⟨_, rfl⟩

/-- The slopes are real numbers. -/
theorem isReal_slope (h : Fin 4) : IsReal (slope h) := by
  match h with
  | ⟨0, _⟩ => simp [slope, Ideal.ofBits, Ideal.ieee]; exact IsReal.mul ⟨_, rfl⟩ ⟨_, rfl⟩
  | ⟨1, _⟩ => simp [slope, Ideal.ofBits, Ideal.ieee]; exact IsReal.mul ⟨_, rfl⟩ ⟨_, rfl⟩
  | ⟨2, _⟩ => simp [slope, Ideal.ofBits, Ideal.ieee]; exact IsReal.mul ⟨_, rfl⟩ ⟨_, rfl⟩
  | ⟨3, _⟩ => simp [slope, Ideal.ofBits, Ideal.ieee]; exact IsReal.mul ⟨_, rfl⟩ ⟨_, rfl⟩

/-- The largest of values that are real or minus infinity, one of them real, is real. -/
theorem isReal_fold {ι : Type} [Fintype ι] {f : ι → EReal} (h : ∀ i, f i = ⊥ ∨ IsReal (f i)) (i : ι) (hi : IsReal (f i)) :
    IsReal (Finset.fold max ⊥ f Finset.univ) := by
  refine isReal_of ?_ ?_
  · have h1 : f i ≤ Finset.fold max ⊥ f Finset.univ := (Finset.le_fold_max _).2 (Or.inr ⟨i, Finset.mem_univ i, le_refl _⟩)
    obtain ⟨r, hr⟩ := hi
    intro hb
    rw [hb, hr] at h1
    exact EReal.coe_ne_bot r (le_bot_iff.1 h1)
  · refine ne_of_lt ((Finset.fold_max_lt _).2 ⟨bot_lt_top, fun j _ => ?_⟩)
    rcases h j with hb | ⟨r, hr⟩
    · rw [hb]; exact bot_lt_top
    · rw [hr]; exact EReal.coe_lt_top r

variable {A : (⟨4, ![8, 1, 4096, 1536]⟩ : Shape).Idx → EReal} (hA : ∀ i, IsReal (A i))
variable (h : Fin 4) (b : Fin 8) (n : Fin 32) (q : Fin 128)
include hA

/-- Inside the window the score is a real number. -/
theorem isReal_score (j : Fin 256) (v : Valid n.val q.val j.val) : IsReal (score A h b n q j) := by
  unfold score
  rw [if_pos v]
  exact ((isReal_sum fun d => (hA _).mul (hA _)).mul isReal_scale).sub ((isReal_slope h).mul ⟨_, rfl⟩)

omit hA in
/-- Outside the window it is minus infinity. -/
theorem score_outside (j : Fin 256) (v : ¬ Valid n.val q.val j.val) : score A h b n q j = ⊥ := by
  unfold score
  rw [if_neg v]

omit hA in
/-- A query may look at its own position. -/
theorem valid_self : Valid n.val q.val (128 + q.val) := ⟨by omega, by omega, Or.inl (by omega)⟩

/-- The largest score is a real number. -/
theorem isReal_top : IsReal (top A h b n q) :=
  isReal_fold (fun j => by
    by_cases v : Valid n.val q.val j.val
    · exact Or.inr (isReal_score hA h b n q j v)
    · exact Or.inl (score_outside h b n q j v)) (⟨128 + q.val, by omega⟩ : Fin 256) (isReal_score hA h b n q _ (valid_self n q))

/-- Outside the window the weight is zero. -/
theorem weight_outside (j : Fin 256) (v : ¬ Valid n.val q.val j.val) : weight A h b n q j = 0 := by
  obtain ⟨t, ht⟩ := isReal_top hA h b n q
  unfold weight
  rw [score_outside h b n q j v, ht, EReal.bot_sub, Ideal.exp_bot]

/-- Inside the window the weight is a positive number. -/
theorem weight_inside (j : Fin 256) (v : Valid n.val q.val j.val) : ∃ r : ℝ, 0 < r ∧ weight A h b n q j = (r : EReal) := by
  obtain ⟨t, ht⟩ := isReal_top hA h b n q
  obtain ⟨s, hs⟩ := isReal_score hA h b n q j v
  refine ⟨Real.exp (s - t), Real.exp_pos _, ?_⟩
  unfold weight
  rw [hs, ht, ← EReal.coe_sub, Ideal.exp_coe]

/-- Every weight is a number, not negative. -/
theorem weight_nonneg (j : Fin 256) : ∃ r : ℝ, 0 ≤ r ∧ weight A h b n q j = (r : EReal) := by
  by_cases v : Valid n.val q.val j.val
  · obtain ⟨r, h1, h2⟩ := weight_inside hA h b n q j v
    exact ⟨r, h1.le, h2⟩
  · exact ⟨0, le_refl _, weight_outside hA h b n q j v⟩

/-- The sum of the weights is a positive number. -/
theorem den_pos : ∃ r : ℝ, 0 < r ∧ den A h b n q = (r : EReal) := by
  choose w h0 hw using weight_nonneg hA h b n q
  refine ⟨∑ j, w j, ?_, ?_⟩
  · refine Finset.sum_pos' (fun j _ => h0 j) ⟨(⟨128 + q.val, by omega⟩ : Fin 256), Finset.mem_univ _, ?_⟩
    obtain ⟨r, h1, h2⟩ := weight_inside hA h b n q ⟨128 + q.val, by omega⟩ (valid_self n q)
    have e := (hw ⟨128 + q.val, by omega⟩).symm.trans h2
    rw [EReal.coe_eq_coe_iff] at e
    rw [e]
    exact h1
  · unfold den
    rw [← coe_sum]
    exact Finset.sum_congr rfl fun j _ => hw j

/-- Dividing each weight, and taking for places outside the window any value at all, gives the mean. -/
theorem mean_of_divided (d : Fin 128) (V : Fin 256 → EReal)
    (hV : ∀ j : Fin 256, Valid n.val q.val j.val → V j = A (ix4 b 0 (keyAt n j) (comp 2 h d))) :
    ∑ j : Fin 256, V j * Ideal.div (weight A h b n q j) (den A h b n q) = mean A h b n q d := by
  obtain ⟨D, hD, e⟩ := den_pos hA h b n q
  choose w h0 hw using weight_nonneg hA h b n q
  choose a ha using hA
  unfold mean
  rw [e, Ideal.div_coe hD.ne']
  have hs : ∑ j : Fin 256, weight A h b n q j * A (ix4 b 0 (keyAt n j) (comp 2 h d))
      = ((∑ j : Fin 256, w j * a (ix4 b 0 (keyAt n j) (comp 2 h d)) : ℝ) : EReal) := by
    rw [← coe_sum]
    exact Finset.sum_congr rfl fun j _ => by rw [hw j, ha, EReal.coe_mul]
  rw [hs, ← EReal.coe_mul, Finset.sum_mul, ← coe_sum]
  refine Finset.sum_congr rfl fun j _ => ?_
  rw [Ideal.div_coe hD.ne']
  by_cases v : Valid n.val q.val j.val
  · rw [hV j v, hw j, ha, ← EReal.coe_mul, ← EReal.coe_mul]
    congr 1
    ring
  · have z : w j = 0 := by
      have := (hw j).symm.trans (weight_outside (fun i => ⟨a i, ha i⟩) h b n q j v)
      exact_mod_cast this
    rw [hw j, z]
    simp

end Cert.AttSpec

end
-- ==== Proof.AttRef.lean ====
/-
  The attention reference's two arrays, read at an entry.
-/
module

public import proofs.«01_k».proof.Proof.Gen.AttRefIdeal.Read
public import proofs.«01_k».proof.Proof.AttSpec

@[expose] public section

set_option maxRecDepth 16384

noncomputable section

namespace Cert.AttRefIdeal.Entry

open Cert.AttRefIdeal Cert.AttRefIdeal.Gen Cert.AttRefIdeal.Read Idealize.ShloMosaic Idealize.ShloMosaic.TcCoe Idealize.SL.Sem
open Cert.AttSpec

variable (A : (⟨4, ![8, 1, 4096, 1536]⟩ : Shape).Idx → EReal)

/-- A section of the argument cut into blocks and heads. -/
theorem blocks_apply (X : (⟨4, ![8, 1, 4096, 512]⟩ : Shape).Idx → EReal) (b : Fin 8) (n : Fin 32) (q : Fin 128) (h : Fin 4) (d : Fin 128) :
    shapeCast S8x1x32x128x4x128 X shapeCasts_S8x1x4096x512_S8x1x32x128x4x128 (ix6 b 0 n q h d)
      = X (ix4 b 0 (rowAt n q) ⟨h.val * 128 + d.val, by omega⟩) := by
  refine shapeCast_apply X _ _ _ ?_
  rw [Shape.rowMajor_val_four, Shape.rowMajor_val_six]
  show ((b.val * 1 + 0) * 4096 + (n.val * 128 + q.val)) * 512 + (h.val * 128 + d.val)
    = ((((b.val * 1 + 0) * 32 + n.val) * 128 + q.val) * 4 + h.val) * 128 + d.val
  omega

/-- The queries by block. -/
theorem queries (b : Fin 8) (n : Fin 32) (q : Fin 128) (h : Fin 4) (d : Fin 128) :
    (val_main_v2 (F := Ideal) A (ix6 b 0 n q h d) : EReal) = A (ix4 b 0 (rowAt n q) (comp 0 h d)) := by
  unfold val_main_v2
  refine (blocks_apply _ b n q h d).trans ?_
  rw [val_main_v1_apply, val_main_v0_apply]
  exact congrArg A (funext fun a => match a with
    | ⟨0, _⟩ => rfl | ⟨1, _⟩ => rfl | ⟨2, _⟩ => rfl
    | ⟨3, _⟩ => Fin.ext (show h.val * 128 + d.val = 0 * 512 + (h.val * 128 + d.val) by omega))

/-- The keys by block. -/
theorem keys (b : Fin 8) (n : Fin 32) (q : Fin 128) (h : Fin 4) (d : Fin 128) :
    (val_main_v4 (F := Ideal) A (ix6 b 0 n q h d) : EReal) = A (ix4 b 0 (rowAt n q) (comp 1 h d)) := by
  unfold val_main_v4
  refine (blocks_apply _ b n q h d).trans ?_
  rw [val_main_v3_apply, val_main_v0_apply]
  exact congrArg A (funext fun a => match a with | ⟨0, _⟩ => rfl | ⟨1, _⟩ => rfl | ⟨2, _⟩ => rfl | ⟨3, _⟩ => rfl)

/-- The values by block. -/
theorem values (b : Fin 8) (n : Fin 32) (q : Fin 128) (h : Fin 4) (d : Fin 128) :
    (val_main_v11 (F := Ideal) A (ix6 b 0 n q h d) : EReal) = A (ix4 b 0 (rowAt n q) (comp 2 h d)) := by
  unfold val_main_v11
  refine (blocks_apply _ b n q h d).trans ?_
  rw [val_main_v10_apply, val_main_v0_apply]
  exact congrArg A (funext fun a => match a with | ⟨0, _⟩ => rfl | ⟨1, _⟩ => rfl | ⟨2, _⟩ => rfl | ⟨3, _⟩ => rfl)

/-- One block of zeros before the first 31 blocks. -/
theorem shifted (Z : (⟨6, ![8, 1, 1, 128, 4, 128]⟩ : Shape).Idx → EReal) (X : (⟨6, ![8, 1, 31, 128, 4, 128]⟩ : Shape).Idx → EReal)
    (b : Fin 8) (n : Fin 32) (q : Fin 128) (h : Fin 4) (d : Fin 128) :
    concatenate S8x1x32x128x4x128 2 [⟨S8x1x1x128x4x128, Z⟩, ⟨S8x1x31x128x4x128, X⟩]
        concatenates_S8x1x1x128x4x128_S8x1x31x128x4x128_S8x1x32x128x4x128_d2 (ix6 b 0 n q h d)
      = if hn : n.val < 1 then Z (ix6 b 0 ⟨n.val, hn⟩ q h d) else X (ix6 b 0 ⟨n.val - 1, by omega⟩ q h d) := by
  pointwise

/-- The previous block's places, then the block's own. -/
theorem joined (X Y : (⟨6, ![8, 1, 32, 128, 4, 128]⟩ : Shape).Idx → EReal)
    (b : Fin 8) (n : Fin 32) (j : Fin 256) (h : Fin 4) (d : Fin 128) :
    concatenate S8x1x32x256x4x128 3 [⟨S8x1x32x128x4x128, X⟩, ⟨S8x1x32x128x4x128, Y⟩]
        concatenates_S8x1x32x128x4x128_S8x1x32x128x4x128_S8x1x32x256x4x128_d3 (ix6 b 0 n j h d)
      = if hj : j.val < 128 then X (ix6 b 0 n ⟨j.val, hj⟩ h d) else Y (ix6 b 0 n ⟨j.val - 128, by omega⟩ h d) := by
  pointwise

/-- What the reference reads at place `j` of section `sec`: zero before the start. -/
def place (sec : Fin 3) (h : Fin 4) (b : Fin 8) (n : Fin 32) (j : Fin 256) (d : Fin 128) : EReal :=
  if j.val < 128 ∧ n.val = 0 then 0 else A (ix4 b 0 (keyAt n j) (comp sec h d))

/-- A section's places: the block before (zeros before the first), then the block itself. -/
theorem padded (sec : Fin 3) (b : Fin 8) (Z : (⟨6, ![8, 1, 1, 128, 4, 128]⟩ : Shape).Idx → EReal)
    (X : (⟨6, ![8, 1, 31, 128, 4, 128]⟩ : Shape).Idx → EReal) (Y : (⟨6, ![8, 1, 32, 128, 4, 128]⟩ : Shape).Idx → EReal)
    (hZ : ∀ i, Z i = 0)
    (hX : ∀ (n : Fin 31) (q : Fin 128) (h : Fin 4) (d : Fin 128), X (ix6 b 0 n q h d) = Y (ix6 b 0 ⟨n.val, by omega⟩ q h d))
    (hY : ∀ (n : Fin 32) (q : Fin 128) (h : Fin 4) (d : Fin 128), Y (ix6 b 0 n q h d) = A (ix4 b 0 (rowAt n q) (comp sec h d)))
    (n : Fin 32) (j : Fin 256) (h : Fin 4) (d : Fin 128) :
    concatenate S8x1x32x256x4x128 3 [⟨S8x1x32x128x4x128, concatenate S8x1x32x128x4x128 2 [⟨S8x1x1x128x4x128, Z⟩, ⟨S8x1x31x128x4x128, X⟩]
          concatenates_S8x1x1x128x4x128_S8x1x31x128x4x128_S8x1x32x128x4x128_d2⟩, ⟨S8x1x32x128x4x128, Y⟩]
        concatenates_S8x1x32x128x4x128_S8x1x32x128x4x128_S8x1x32x256x4x128_d3 (ix6 b 0 n j h d)
      = place A sec h b n j d := by
  refine (joined _ _ b n j h d).trans ?_
  unfold place
  by_cases hj : j.val < 128
  · rw [dif_pos hj, shifted]
    by_cases hn : n.val < 1
    · rw [dif_pos hn, hZ, if_pos ⟨hj, by omega⟩]
    · rw [dif_neg hn, hX, hY, if_neg (by omega)]
      exact congrArg (fun t => A (ix4 b 0 t (comp sec h d))) (Fin.ext (show (n.val - 1) * 128 + j.val = if j.val < 128 then _ else _ by rw [if_pos hj]))
  · rw [dif_neg hj, hY, if_neg (by omega)]
    exact congrArg (fun t => A (ix4 b 0 t (comp sec h d))) (Fin.ext (show n.val * 128 + (j.val - 128) = if j.val < 128 then _ else _ by rw [if_neg hj]))

/-- The constant zero. -/
theorem zero_bits : Ideal.ofBits FTy.f32 0#32 = 0 := by simp [Ideal.ofBits, Ideal.ieee]

/-- The keys the reference scores. -/
theorem key_place (b : Fin 8) (n : Fin 32) (j : Fin 256) (h : Fin 4) (d : Fin 128) :
    (val_main_v9 (F := Ideal) A (ix6 b 0 n j h d) : EReal) = place A 1 h b n j d := by
  unfold val_main_v9 val_main_v8
  refine padded A 1 b _ _ _ (fun i => ?_) (fun n q h d => ?_) (keys A b) n j h d
  · rw [val_main_v6_apply]; exact zero_bits
  · rw [val_main_v7_apply]
    exact congrArg (val_main_v4 (F := Ideal) A) (funext fun a => match a with
      | ⟨0, _⟩ => rfl | ⟨1, _⟩ => rfl | ⟨2, _⟩ => rfl | ⟨3, _⟩ => rfl | ⟨4, _⟩ => rfl | ⟨5, _⟩ => rfl)

/-- The values the reference takes the mean of. -/
theorem value_place (b : Fin 8) (n : Fin 32) (j : Fin 256) (h : Fin 4) (d : Fin 128) :
    (val_main_v16 (F := Ideal) A (ix6 b 0 n j h d) : EReal) = place A 2 h b n j d := by
  unfold val_main_v16 val_main_v15
  refine padded A 2 b _ _ _ (fun i => ?_) (fun n q h d => ?_) (values A b) n j h d
  · rw [val_main_v13_apply]; exact zero_bits
  · rw [val_main_v14_apply]
    exact congrArg (val_main_v11 (F := Ideal) A) (funext fun a => match a with
      | ⟨0, _⟩ => rfl | ⟨1, _⟩ => rfl | ⟨2, _⟩ => rfl | ⟨3, _⟩ => rfl | ⟨4, _⟩ => rfl | ⟨5, _⟩ => rfl)

/-- The reference's distance. -/
theorem distance (q : Fin 128) (j : Fin 256) : val_main_v28 (F := Ideal) (ix2 q j) = word q.val j.val := by
  simp only [val_main_v28_apply, val_main_v27_apply, val_main_v26_apply, val_main_v25_apply, val_main_v24_apply, val_main_v23_apply,
    val_main_v22_apply, val_main_v21_apply, val_main_v20_apply]
  rfl

/-- Not before the start, as the reference computes it. -/
theorem started (n : Fin 32) (j : Fin 256) : val_main_v45 (F := Ideal) (ix3 n 0 j)
    = IntOp.cmpi .sge (IntOp.subi (IntOp.addi (IntOp.muli (BitVec.ofNat 32 n.val) 128#32) (BitVec.ofNat 32 j.val)) 128#32) 0#32 := by
  simp only [val_main_v45_apply, val_main_v44_apply, val_main_v43_apply, val_main_v42_apply, val_main_v41_apply, val_main_v40_apply,
    val_main_v39_apply, val_main_v38_apply, val_main_v37_apply, val_main_v36_apply, val_main_v30_apply, val_main_v29_apply,
    val_main_v23_apply, val_main_v22_apply]
  rfl

/-- A place is not before the start when it is in the block itself or there is a block before. -/
theorem started_eq (n j : ℕ) (hn : n < 32) (hj : j < 256) :
    IntOp.cmpi .sge (IntOp.subi (IntOp.addi (IntOp.muli (BitVec.ofNat 32 n) 128#32) (BitVec.ofNat 32 j)) 128#32) 0#32
      = IntOp.ori (IntOp.cmpi CmpIPredicate.sge (BitVec.ofNat 32 j) 128#32) (IntOp.cmpi CmpIPredicate.sgt (BitVec.ofNat 32 n) 0#32) := by
  have hw : (IntOp.subi (IntOp.addi (IntOp.muli (BitVec.ofNat 32 n) 128#32) (BitVec.ofNat 32 j)) 128#32).toInt = (n : ℤ) * 128 + j - 128 := by
    unfold IntOp.subi IntOp.addi IntOp.muli
    rw [BitVec.toInt_eq_toNat_cond]
    simp only [BitVec.toNat_sub, BitVec.toNat_add, BitVec.toNat_mul, BitVec.toNat_ofNat]
    split_ifs <;> omega
  have hj' : (BitVec.ofNat 32 j).toInt = j := by
    rw [BitVec.toInt_eq_toNat_cond]
    simp only [BitVec.toNat_ofNat]
    split_ifs <;> omega
  have hn' : (BitVec.ofNat 32 n).toInt = n := by
    rw [BitVec.toInt_eq_toNat_cond]
    simp only [BitVec.toNat_ofNat]
    split_ifs <;> omega
  have z : (0#32 : BitVec 32).toInt = 0 := by decide
  have o : (128#32 : BitVec 32).toInt = 128 := by decide
  simp only [IntOp.cmpi]
  rw [BitVec.sle_eq_decide, BitVec.sle_eq_decide, BitVec.slt_eq_decide, hw, hj', hn', z, o]
  unfold IntOp.ori
  have h1 : decide ((0 : ℤ) ≤ (n : ℤ) * 128 + j - 128) = decide (128 ≤ j ∨ 0 < n) := decide_eq_decide.2 (by omega)
  have h2 : decide ((128 : ℤ) ≤ j) = decide (128 ≤ j) := decide_eq_decide.2 (by omega)
  have h3 : decide ((0 : ℤ) < n) = decide (0 < n) := decide_eq_decide.2 (by omega)
  rw [h1, h2, h3]
  by_cases d : 128 ≤ j <;> by_cases f : 0 < n <;> simp [d, f]

/-- The reference's mask is the window. -/
theorem mask (n : Fin 32) (q : Fin 128) (j : Fin 256) :
    val_main_v49 (F := Ideal) (ix3 n q j) = if Valid n.val q.val j.val then 1#1 else 0#1 := by
  rw [← mask_eq n.val q.val j.val n.isLt q.isLt j.isLt, ← started_eq n.val j.val n.isLt j.isLt, ← started, ← distance]
  simp only [val_main_v49_apply, val_main_v48_apply, val_main_v47_apply, val_main_v46_apply, val_main_v35_apply, val_main_v34_apply,
    val_main_v33_apply, val_main_v32_apply, val_main_v31_apply]
  rfl

/-- The four slopes. -/
theorem slopes (h : Fin 4) : (val_main_v54 (F := Ideal) (ix1 h) : EReal) = slope h := by
  pointwise [val_main_v54, val_main_v53, val_main_v52, val_main_v51, val_main_v50, val_main_cst_7, val_main_cst_8, val_main_cst_9, val_main_cst_10]
  match h with
  | ⟨0, _⟩ => rfl
  | ⟨1, _⟩ => rfl
  | ⟨2, _⟩ => rfl
  | ⟨3, _⟩ => rfl

/-- Slope times distance, negated. -/
theorem bias (h : Fin 4) (q : Fin 128) (j : Fin 256) :
    (val_main_v63 (F := Ideal) (ix3 h q j) : EReal) = -(slope h * (((q : ℤ) + 128 - j : ℤ) : ℝ)) := by
  have e : IntOp.muli 1#32 (word q.val j.val) = word q.val j.val := by unfold IntOp.muli; exact BitVec.one_mul _
  rw [← word_toInt q.val j.val q.isLt j.isLt, ← e, ← distance, ← slopes]
  simp only [val_main_v63_apply, val_main_v62_apply, val_main_v61_apply, val_main_v60_apply, val_main_v59_apply, val_main_v58_apply,
    val_main_v57_apply, val_main_v56_apply, val_main_v55_apply]
  have e1 : idx_main_v55 (idx_main_v60 (ix3 h q j)) = ix1 h := funext fun a => match a with | ⟨0, _⟩ => rfl
  have e2 : idx_main_v59 (idx_main_v61 (ix3 h q j)) = ix2 q j := funext fun a => match a with | ⟨0, _⟩ => rfl | ⟨1, _⟩ => rfl
  rw [e1, e2]
  rfl

/-- The scaled product. -/
theorem product (b : Fin 8) (n : Fin 32) (h : Fin 4) (q : Fin 128) (j : Fin 256) :
    (val_main_v17 (F := Ideal) A (ix6 b 0 n h q j) : EReal) = ∑ d : Fin 128, A (ix4 b 0 (rowAt n q) (comp 0 h d)) * place A 1 h b n j d := by
  refine (val_main_v17_apply A _).trans (Finset.sum_congr rfl fun d _ => ?_)
  refine congrArg₂ (· * ·) (Eq.trans (congrArg (val_main_v2 (F := Ideal) A) ?_) (queries A b n q h d))
    (Eq.trans (congrArg (val_main_v9 (F := Ideal) A) ?_) (key_place A b n j h d))
  · exact funext fun a => match a with
      | ⟨0, _⟩ => rfl | ⟨1, _⟩ => rfl | ⟨2, _⟩ => rfl | ⟨3, _⟩ => rfl | ⟨4, _⟩ => rfl | ⟨5, _⟩ => rfl
  · exact funext fun a => match a with
      | ⟨0, _⟩ => rfl | ⟨1, _⟩ => rfl | ⟨2, _⟩ => rfl | ⟨3, _⟩ => rfl | ⟨4, _⟩ => rfl | ⟨5, _⟩ => rfl

/-- The reference's scores. -/
theorem score_eq (b : Fin 8) (n : Fin 32) (h : Fin 4) (q : Fin 128) (j : Fin 256) :
    (val_main_v68 (F := Ideal) A (ix6 b 0 n h q j) : EReal) = score A h b n q j := by
  have hm : val_main_call0_v1 (F := Ideal) (ix6 b 0 n h q j) = if Valid n.val q.val j.val then 1#1 else 0#1 := by
    rw [← mask, val_main_call0_v1_apply, val_main_v64_apply]
    exact congrArg (val_main_v49 (F := Ideal)) (funext fun a => match a with | ⟨0, _⟩ => rfl | ⟨1, _⟩ => rfl | ⟨2, _⟩ => rfl)
  have hb : (val_main_v66 (F := Ideal) (ix6 b 0 n h q j) : EReal) = -(slope h * (((q : ℤ) + 128 - j : ℤ) : ℝ)) := by
    rw [← bias, val_main_v66_apply, val_main_v65_apply]
    exact congrArg (val_main_v63 (F := Ideal)) (funext fun a => match a with | ⟨0, _⟩ => rfl | ⟨1, _⟩ => rfl | ⟨2, _⟩ => rfl)
  rw [val_main_v68_apply, hm]
  unfold score
  by_cases v : Valid n.val q.val j.val
  · rw [if_pos v, if_pos v, val_main_v67_apply, val_main_v19_apply]
    have hp : (val_main_v17 (F := Ideal) A (ix6 b 0 n h q j) : EReal) = dot A h b (rowAt n q) (keyAt n j) := by
      refine (product A b n h q j).trans (Finset.sum_congr rfl fun d _ => ?_)
      unfold place
      rw [if_neg (fun c => by have := v.2.2; omega)]
    have hs : (val_main_v18 (F := Ideal) (ix6 b 0 n h q j) : EReal) = Ideal.ofBits FTy.f32 1035273459#32 := by
      rw [val_main_v18_apply]; rfl
    show (val_main_v17 (F := Ideal) A (ix6 b 0 n h q j) : EReal) * (val_main_v18 (F := Ideal) (ix6 b 0 n h q j) : EReal)
      + (val_main_v66 (F := Ideal) (ix6 b 0 n h q j) : EReal) = _
    rw [hp, hs, hb, ← sub_eq_add_neg]
  · rw [if_neg v, if_neg v]
    show (val_main_call0_v2 (F := Ideal) (ix6 b 0 n h q j) : EReal) = ⊥
    rw [val_main_call0_v2_apply]
    show Ideal.ofBits FTy.f32 4286578688#32 = ⊥
    simp [Ideal.ofBits, Ideal.ieee]

/-- The largest score of a row. -/
theorem top_eq (b : Fin 8) (n : Fin 32) (h : Fin 4) (q : Fin 128) :
    (val_main_v69 (F := Ideal) A (ix5 b 0 n h q) : EReal) = top A h b n q := by
  have e : (Ideal.ofBits FTy.f32 4286578688#32 : EReal) = ⊥ := by simp [Ideal.ofBits, Ideal.ieee]
  have hf : (val_main_v69 (F := Ideal) A (ix5 b 0 n h q) : EReal)
      = Finset.fold max (Ideal.ofBits FTy.f32 4286578688#32) (fun j : Fin 256 => (val_main_v68 (F := Ideal) A (ix6 b 0 n h q j) : EReal)) Finset.univ := by
    unfold val_main_v69
    refine (Host.reduce_eq_fold_single (FloatOps.maximumf (F := Ideal) (φ := .f32)) (val_main_v68 (F := Ideal) A) (val_main_cst_13 (F := Ideal))
      reducesTo_S8x1x32x4x128x256_S8x1x32x4x128_d5 (by decide) h_S_ (ix5 b 0 n h q)).trans ?_
    refine congrArg (fun f => Finset.fold max (Ideal.ofBits FTy.f32 4286578688#32) f Finset.univ) (funext fun j => ?_)
    exact congrArg (val_main_v68 (F := Ideal) A) (funext fun a => Fin.ext (match a with
      | ⟨0, _⟩ => rfl | ⟨1, _⟩ => rfl | ⟨2, _⟩ => rfl | ⟨3, _⟩ => rfl | ⟨4, _⟩ => rfl | ⟨5, _⟩ => rfl))
  rw [hf, e]
  exact congrArg (fun f => Finset.fold max ⊥ f Finset.univ) (funext fun j => score_eq A b n h q j)

/-- The reference's weights, not yet divided. -/
theorem weight_eq (b : Fin 8) (n : Fin 32) (h : Fin 4) (q : Fin 128) (j : Fin 256) :
    (val_main_v73 (F := Ideal) A (ix6 b 0 n h q j) : EReal) = weight A h b n q j := by
  have ht : (val_main_v71 (F := Ideal) A (ix6 b 0 n h q j) : EReal) = top A h b n q := by
    rw [val_main_v71_apply, val_main_v70_apply, ← top_eq]
    exact congrArg (val_main_v69 (F := Ideal) A) (funext fun a => match a with
      | ⟨0, _⟩ => rfl | ⟨1, _⟩ => rfl | ⟨2, _⟩ => rfl | ⟨3, _⟩ => rfl | ⟨4, _⟩ => rfl)
  rw [val_main_v73_apply, val_main_v72_apply]
  show Ideal.exp ((val_main_v68 (F := Ideal) A (ix6 b 0 n h q j) : EReal) - (val_main_v71 (F := Ideal) A (ix6 b 0 n h q j) : EReal)) = _
  rw [ht, score_eq]
  rfl

/-- The sum of a row's weights. -/
theorem den_eq (b : Fin 8) (n : Fin 32) (h : Fin 4) (q : Fin 128) :
    (val_main_v74 (F := Ideal) A (ix5 b 0 n h q) : EReal) = den A h b n q := by
  refine (val_main_v74_apply A _).trans ?_
  refine (congrArg (· + _) (zero_bits : (val_main_cst_14 (F := Ideal)) (Shape.Idx.first h_S_) = 0)).trans ((zero_add _).trans ?_)
  refine Finset.sum_congr rfl fun j _ => Eq.trans (congrArg (val_main_v73 (F := Ideal) A) ?_) (weight_eq A b n h q j)
  exact funext fun a => match a with
      | ⟨0, _⟩ => rfl | ⟨1, _⟩ => rfl | ⟨2, _⟩ => rfl | ⟨3, _⟩ => rfl | ⟨4, _⟩ => rfl | ⟨5, _⟩ => rfl

/-- One entry of the reference's result: the values times the divided weights. -/
theorem mean_eq (b : Fin 8) (n : Fin 32) (h : Fin 4) (q d : Fin 128) :
    (val_main_v78 (F := Ideal) A (ix6 b 0 n h d q) : EReal)
      = ∑ j : Fin 256, place A 2 h b n j d * Ideal.div (weight A h b n q j) (den A h b n q) := by
  refine (val_main_v78_apply A _).trans (Finset.sum_congr rfl fun j _ => ?_)
  have hw : (val_main_v77 (F := Ideal) A (ix6 b 0 n h q j) : EReal) = Ideal.div (weight A h b n q j) (den A h b n q) := by
    rw [val_main_v77_apply, val_main_v76_apply, val_main_v75_apply, ← weight_eq, ← den_eq]
    refine congrArg (fun z => Ideal.div (val_main_v73 (F := Ideal) A (ix6 b 0 n h q j)) (val_main_v74 (F := Ideal) A z)) ?_
    exact funext fun a => match a with
      | ⟨0, _⟩ => rfl | ⟨1, _⟩ => rfl | ⟨2, _⟩ => rfl | ⟨3, _⟩ => rfl | ⟨4, _⟩ => rfl
  refine congrArg₂ (· * ·) (Eq.trans (congrArg (val_main_v16 (F := Ideal) A) ?_) (value_place A b n j h d))
    (Eq.trans (congrArg (val_main_v77 (F := Ideal) A) ?_) hw)
  · exact funext fun a => match a with
      | ⟨0, _⟩ => rfl | ⟨1, _⟩ => rfl | ⟨2, _⟩ => rfl | ⟨3, _⟩ => rfl | ⟨4, _⟩ => rfl | ⟨5, _⟩ => rfl
  · exact funext fun a => match a with
      | ⟨0, _⟩ => rfl | ⟨1, _⟩ => rfl | ⟨2, _⟩ => rfl | ⟨3, _⟩ => rfl | ⟨4, _⟩ => rfl | ⟨5, _⟩ => rfl

/-- The reference's first result, by head, batch and position. -/
theorem out81 (i : (⟨4, ![4, 8, 4096, 128]⟩ : Shape).Idx) : (val_main_v81 (F := Ideal) A i : EReal)
    = ∑ j : Fin 256, place A 2 (i 0) (i 1) (blockOf (i 2)) j (i 3)
        * Ideal.div (weight A (i 0) (i 1) (blockOf (i 2)) (rowOf (i 2)) j) (den A (i 0) (i 1) (blockOf (i 2)) (rowOf (i 2))) := by
  refine Eq.trans ?_ (mean_eq A (i 1) (blockOf (i 2)) (i 0) (rowOf (i 2)) (i 3))
  rw [val_main_v81_apply]
  unfold val_main_v80
  refine (shapeCast_apply (val_main_v79 (F := Ideal) A) shapeCasts_S8x1x32x128x4x128_S8x4096x4x128 (idx_main_v81 i)
    (ix6 (i 1) 0 (blockOf (i 2)) (rowOf (i 2)) (i 0) (i 3)) ?_).trans ?_
  · rw [Shape.rowMajor_val_four, Shape.rowMajor_val_six]
    have h0 : (i 2).val < 4096 := (i 2).isLt
    show (((((i 1).val * 1 + 0) * 32 + (i 2).val / 128) * 128 + (i 2).val % 128) * 4 + (i 0).val) * 128 + (i 3).val
      = (((i 1).val * 4096 + (i 2).val) * 4 + (i 0).val) * 128 + (i 3).val
    omega
  · rw [val_main_v79_apply]
    exact congrArg (val_main_v78 (F := Ideal) A) (funext fun a => match a with
      | ⟨0, _⟩ => rfl | ⟨1, _⟩ => rfl | ⟨2, _⟩ => rfl | ⟨3, _⟩ => rfl | ⟨4, _⟩ => rfl | ⟨5, _⟩ => rfl)

/-- The log-sums by block and row, at a position. -/
theorem log_sum_at (h : Fin 4) (b : Fin 8) (n : Fin 32) (q : Fin 128) : (val_main_v85 (F := Ideal) A (ix4 h b n q) : EReal) = logSum A h b n q := by
  have e : idx_main_v84 (idx_main_v85 (ix4 h b n q)) = ix5 b 0 n h q := funext fun a => Fin.ext (match a with
    | ⟨0, _⟩ => (show (((b.val * 32 + n.val) * 4 + h.val) * 128 + q.val) / 16384 = b.val by omega)
    | ⟨1, _⟩ => rfl
    | ⟨2, _⟩ => (show (((b.val * 32 + n.val) * 4 + h.val) * 128 + q.val) / 512 % 32 = n.val by omega)
    | ⟨3, _⟩ => (show (((b.val * 32 + n.val) * 4 + h.val) * 128 + q.val) / 128 % 4 = h.val by omega)
    | ⟨4, _⟩ => (show (((b.val * 32 + n.val) * 4 + h.val) * 128 + q.val) % 128 = q.val by omega))
  rw [val_main_v85_apply, val_main_v84_apply, e, val_main_v83_apply, val_main_v82_apply]
  unfold logSum
  rw [← top_eq, ← den_eq]
  rfl

/-- The log-sums by position. -/
theorem log_sum_row (h : Fin 4) (b : Fin 8) (s : Fin 4096) (d : Fin 128) :
    (val_main_v88 (F := Ideal) A (ix4 h b s d) : EReal) = logSum A h b (blockOf s) (rowOf s) := by
  have e : idx_main_v86 (idx_main_v87 (idx_main_v88 (ix4 h b s d))) = ix4 h b (blockOf s) (rowOf s) := funext fun a => Fin.ext (match a with
    | ⟨0, _⟩ => (show ((h.val * 8 + b.val) * 4096 + s.val) / 32768 = h.val by omega)
    | ⟨1, _⟩ => (show ((h.val * 8 + b.val) * 4096 + s.val) / 4096 % 8 = b.val by omega)
    | ⟨2, _⟩ => (show ((h.val * 8 + b.val) * 4096 + s.val) / 128 % 32 = s.val / 128 by omega)
    | ⟨3, _⟩ => (show ((h.val * 8 + b.val) * 4096 + s.val) % 128 = s.val % 128 by omega))
  rw [val_main_v88_apply, val_main_v87_apply, val_main_v86_apply, e, log_sum_at]

/-- The reference's second result: the log-sums. -/
theorem out88 : (val_main_v88 (F := Ideal) A : (⟨4, ![4, 8, 4096, 128]⟩ : Shape).Idx → EReal) = logSums A :=
  funext fun i => (congrArg (val_main_v88 (F := Ideal) A) (eq_ix4 i)).trans (log_sum_row A (i 0) (i 1) (i 2) (i 3))

end Cert.AttRefIdeal.Entry

end
-- ==== Proof.AttEq.lean ====
/-
  The attention's equation: on finite arguments the kernel's two arrays are the reference's.
-/
module

public import proofs.«01_k».proof.Defs
public import proofs.«01_k».proof.Proof.AttArray
public import proofs.«01_k».proof.Proof.AttMean
public import proofs.«01_k».proof.Proof.AttRef
public import proofs.«01_k».proof.Proof.Gen.AttRefIdeal.Run
public import proofs.«01_k».proof.Proof.Gen.Pre_finite
public import Idealize.ShloMosaic.Lib.Quiescent

@[expose] public section

set_option maxRecDepth 16384

noncomputable section

namespace Cert.AttEq

open Idealize.ShloMosaic Idealize.ShloMosaic.TcCoe Idealize.SL.Sem
open Cert.AttSpec Cert.AttIdeal.Arrays

/-- A value whose absolute value is below infinity is a real number. -/
theorem isReal_of_abs (x : EReal) (h : FloatOps.cmpf (F := Ideal) (φ := .f32) CmpFPredicate.olt (FloatOps.hostAbsf (F := Ideal) (φ := .f32) x) (Ideal.ofBits FTy.f32 0x7F800000#32) = 1#1) : IsReal x := by
  have e : Ideal.ofBits FTy.f32 0x7F800000#32 = (⊤ : EReal) := by simp [Ideal.ofBits, Ideal.ieee]
  rw [e] at h
  refine isReal_of ?_ ?_
  · rintro rfl
    revert h
    simp [FloatOps.cmpf, FloatOps.absf, Ideal.cmp]
  · rintro rfl
    revert h
    simp [FloatOps.cmpf, FloatOps.absf, Ideal.cmp]

/-- What the precondition says of the argument: every entry is a real number. -/
theorem finite_args (x : (⟨4, ![8, 1, 4096, 1536]⟩ : Shape).Idx → EReal) (h : Cert.Pre_finite.fn (F := Ideal) x = fun _ => 1#1) (i) : IsReal (x i) :=
  isReal_of_abs (x i) (congrFun h i)

/-- On finite arguments the reference's first array is the specification's. -/
theorem reference_means (A : (⟨4, ![8, 1, 4096, 1536]⟩ : Shape).Idx → EReal) (hA : ∀ i, IsReal (A i)) :
    (Cert.AttRefIdeal.Read.val_main_v81 (F := Ideal) A : (⟨4, ![4, 8, 4096, 128]⟩ : Shape).Idx → EReal) = means A := by
  funext i
  refine (Cert.AttRefIdeal.Entry.out81 A i).trans (mean_of_divided hA (i 0) (i 1) (blockOf (i 2)) (rowOf (i 2)) (i 3) _ fun j v => ?_)
  unfold Cert.AttRefIdeal.Entry.place
  rw [if_neg (fun c => by have := v.2.2; omega)]

/-- The kernel's run leaves the specification's two arrays and keeps its argument. -/
theorem kernel_run (m : (ℓ : Loc Cert.AttIdeal.nD Cert.AttIdeal.τ Cert.AttIdeal.sig) → Buf (Elt Ideal) ℓ) (ρ : Dev Cert.AttIdeal.nD → PrngReg) :
    θ_run (Cert.AttIdeal.defs (F := Ideal)) (onTc (τ := Cert.AttIdeal.τ) (Cert.AttIdeal.main (F := Ideal))) ⟨m, fun _ => 0, ρ⟩ fun r => ∀ c : Dev Cert.AttIdeal.nD,
      r.2.mem ((c.tc : Thread Cert.AttIdeal.nD Cert.AttIdeal.τ).loc Cert.AttIdeal.main_v0_0) = means (argA m c)
      ∧ r.2.mem ((c.tc : Thread Cert.AttIdeal.nD Cert.AttIdeal.τ).loc Cert.AttIdeal.main_v0_1) = logSums (argA m c)
      ∧ r.2.mem ((c.tc : Thread Cert.AttIdeal.nD Cert.AttIdeal.τ).loc Cert.AttIdeal.main_arg0) = m ((c.tc : Thread Cert.AttIdeal.nD Cert.AttIdeal.τ).loc Cert.AttIdeal.main_arg0) := by
  refine (θ_run Cert.AttIdeal.defs _ _).mono (fun r h c => ?_) (Cert.AttIdeal.Value.run_blocks (F := Ideal) m ρ)
  obtain ⟨h0, h1, k0⟩ := h c
  exact ⟨h0.trans (array5 m c), h1.trans (array6 m c), k0⟩

/-- The attention's value claim: from finite arguments that agree, both runs end with the same two arrays. -/
theorem algebraic : Cert.algebraic_AttIdeal_AttRefIdeal_pre_finite := by
  intro m ρ m' ρ' hpre hagree
  refine ⟨fun c => means (argA m c), fun c => logSums (argA m c), kernel_run m ρ, ?_⟩
  refine (θ_run Cert.AttRefIdeal.defs _ _).mono (fun r h c => ?_) (Cert.AttRefIdeal.Value.run (F := Ideal) m' ρ')
  obtain ⟨h0, h1, k0⟩ := h c
  have a0 := hagree c
  have hA := finite_args _ (hpre c)
  have e0 := (Cert.AttRefIdeal.Read.val_main_v81_eq (F := Ideal) m' c).trans (congrArg (Cert.AttRefIdeal.Read.val_main_v81 (F := Ideal)) a0)
  have e1 := (Cert.AttRefIdeal.Read.val_main_v88_eq (F := Ideal) m' c).trans (congrArg (Cert.AttRefIdeal.Read.val_main_v88 (F := Ideal)) a0)
  exact ⟨h0.trans (e0.trans (reference_means _ hA)), h1.trans (e1.trans (Cert.AttRefIdeal.Entry.out88 _)), k0⟩

/-- The reference runs and keeps its argument. -/
theorem reference_frame : Cert.quiescent_AttRefIdeal := fun m ρ _ =>
  (θ_run Cert.AttRefIdeal.defs _ _).mono
    (fun r h => ⟨fun c => (h c).2.2, sem_eq_zero_of_no_sems (by decide) r.2⟩)
    (Cert.AttRefIdeal.Value.run (F := Ideal) m ρ)

end Cert.AttEq

end
-- ==== Proof.MixIdealBlocks.lean ====
module

public import proofs.«01_k».proof.Proof.Gen.MixIdeal.Launch
public import proofs.«01_k».proof.Proof.Gen.MixIdeal.Skeleton
public import proofs.«01_k».proof.Proof.Gen.MixIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

/-! What one block of the mixing kernel leaves in its three output buffers, as functions of its sixteen input blocks. -/

@[expose] public section

set_option maxRecDepth 16384

noncomputable section

namespace Cert.MixIdeal.Gen

open Idealize.ShloMosaic Idealize.ShloMosaic.TcCoe Idealize.ShloMosaic.Tactic

variable {F : FTy → Type} [FloatOps F]

/-- The sixteen input blocks of one grid point. -/
structure Blocks (F : FTy → Type) where
  /-- The retention rows. -/
  retg : Vec F S256x1024 .bf16
  /-- The outputs of the three head groups. -/
  o1 : Vec F S4x256x128 .f32
  o2 : Vec F S4x256x128 .f32
  o3 : Vec F S4x256x128 .f32
  /-- Their sums. -/
  l1 : Vec F S4x256x128 .f32
  l2 : Vec F S4x256x128 .f32
  l3 : Vec F S4x256x128 .f32
  /-- The gate rows of the retention. -/
  gr : Vec F S256x1024 .bf16
  /-- The gate rows of the attention. -/
  ga : Vec F S256x1024 .bf16
  /-- The input rows. -/
  x : Vec F S256x1024 .f32
  /-- The weights of the retention. -/
  wro : Vec F S1024x1024 .bf16
  /-- The weights of the attention. -/
  wao : Vec F S512x1024 .bf16
  /-- The weights of the output. -/
  wo : Vec F S1024x1024 .bf16
  /-- The gain of the norm. -/
  g2 : Vec F S1x1024 .f32
  /-- The weights of the queries. -/
  wq : Vec F S1024x2048 .bf16
  /-- The sub-keys. -/
  sk : Vec F S16x128x128 .bf16

/-- Head `h` of a block of four heads. -/
abbrev head (h : Nat) (hh : h + 1 ≤ 4) : Rect S4x256x128 :=
  Rect.unit (s := S4x256x128) ![h, 0, 0] S1x256x128.size (by
    intro a; fin_cases a <;> simp <;> omega)

/-- Table `p` of the sixteen sub-key tables. -/
abbrev table (p : Nat) (hp : p + 1 ≤ 16) : Rect S16x128x128 :=
  Rect.unit (s := S16x128x128) ![p, 0, 0] S1x128x128.size (by
    intro a; fin_cases a <;> simp <;> omega)

/-- Plane `p` of the sixteen planes of scores. -/
abbrev plane (p : Nat) (hp : p + 1 ≤ 16) : Rect S16x128x256 :=
  Rect.unit (s := S16x128x256) ![p, 0, 0] S1x128x256.size (by
    intro a; fin_cases a <;> simp <;> omega)

/-- Every eighth row from row `r`. -/
abbrev eighth (r : Nat) (hr : r < 8) : Rect S2048x128 :=
  ⟨(⟨![r, 0], S256x128.size, ![8, 1], by intro a; right; fin_cases a <;> simp <;> omega⟩ : LoadRect S2048x128),
    by intro a; fin_cases a <;> simp⟩

/-- A whole `256 × 1024` block, and below the other shapes stored or loaded whole. -/
abbrev whole : Rect S256x1024 := Rect.unit (s := S256x1024) ![0, 0] S256x1024.size (by decide)
abbrev wholeW : Rect S1024x1024 := Rect.unit (s := S1024x1024) ![0, 0] S1024x1024.size (by decide)
abbrev wholeA : Rect S512x1024 := Rect.unit (s := S512x1024) ![0, 0] S512x1024.size (by decide)
abbrev wholeG : Rect S1x1024 := Rect.unit (s := S1x1024) ![0, 0] S1x1024.size (by decide)
abbrev wholeQ : Rect S1024x2048 := Rect.unit (s := S1024x2048) ![0, 0] S1024x2048.size (by decide)

namespace Blocks

variable (B : Blocks F)

/-- The sums of the first and of the second group, the four heads side by side. -/
def sums1 : FVec F S256x512 .f32 :=
  k0_pay2 (View.ld B.l1 (head 0 (by decide))) (View.ld B.l1 (head 1 (by decide))) (View.ld B.l1 (head 2 (by decide))) (View.ld B.l1 (head 3 (by decide)))
def sums2 : FVec F S256x512 .f32 :=
  k0_pay3 (View.ld B.l2 (head 0 (by decide))) (View.ld B.l2 (head 1 (by decide))) (View.ld B.l2 (head 2 (by decide))) (View.ld B.l2 (head 3 (by decide)))

/-- What `f` takes of the sums of the three groups. -/
abbrev ofSums {α : Type} (f : FVec F S256x512 .f32 → FVec F S256x512 .f32 → FVec F S256x128 .f32 → FVec F S256x128 .f32 →
    FVec F S256x128 .f32 → Vec F S1x256x128 .f32 → α) : α :=
  f B.sums1 B.sums2 (k0_pay4 (View.ld B.l3 (head 0 (by decide)))) (k0_pay5 (View.ld B.l3 (head 1 (by decide))))
    (k0_pay6 (View.ld B.l3 (head 2 (by decide)))) (View.ld B.l3 (head 3 (by decide)))

/-- The third group's exponential, the sum of the three, … -/
def part30 : FVec F S256x512 .f32 := B.ofSums k0_pay9
def part32 : FVec F S256x512 .f32 := B.ofSums k0_pay10
def part34 : FVec F S256x512 .f32 := B.ofSums k0_pay11
/-- … and the first two groups' share of the mean. -/
def part55 : FVec F S256x512 .f32 := B.ofSums k0_pay12
  (View.ld B.o1 (head 0 (by decide))) (View.ld B.o1 (head 1 (by decide))) (View.ld B.o1 (head 2 (by decide))) (View.ld B.o1 (head 3 (by decide)))
  (View.ld B.o2 (head 0 (by decide))) (View.ld B.o2 (head 1 (by decide))) (View.ld B.o2 (head 2 (by decide))) (View.ld B.o2 (head 3 (by decide)))

/-- The gated sum of the two branches. -/
def gated : FVec F S256x1024 .bf16 :=
  k0_pay13 B.part30 B.part32 B.part34 B.part55
    (View.ld B.o3 (head 0 (by decide))) (View.ld B.o3 (head 1 (by decide))) (View.ld B.o3 (head 2 (by decide))) (View.ld B.o3 (head 3 (by decide)))
    (View.ld B.wao wholeA) (View.ld B.retg whole) (View.ld B.wro wholeW) (View.ld B.gr whole) (View.ld B.ga whole)

/-- The rows after the mixing. -/
def rows : FVec F S256x1024 .f32 := k0_pay15 (View.ld B.x whole) B.gated (k0_pay14 (View.ld B.wo wholeW))

/-- Their norm. -/
def normed : FVec F S256x1024 .f32 := k0_pay16 (View.ld B.x whole) B.gated (k0_pay14 (View.ld B.wo wholeW)) (View.ld B.g2 wholeG)

/-- What `f` takes of the norm's own operands. -/
abbrev ofRows {α : Type} (f : Vec F S256x1024 .f32 → FVec F S256x1024 .bf16 → FVec F S1024x1024 .bf16 → Vec F S1x1024 .f32 → α) : α :=
  f (View.ld B.x whole) B.gated (k0_pay14 (View.ld B.wo wholeW)) (View.ld B.g2 wholeG)

/-- The queries. -/
def queries : FVec F S256x2048 .bf16 := k0_pay25 B.normed (View.ld B.wq wholeQ)

/-- The buffer of the mixed rows. -/
def outH : Vec F S256x1024 .f32 := View.canon [⟨whole, B.rows⟩]

/-- The buffer of the norms: column block `r` of the norm goes to every eighth row from row `r`. -/
def outN : Vec F S2048x128 .f32 := View.canon [
  ⟨eighth 7 (by decide), k0_pay24 B.normed⟩, ⟨eighth 6 (by decide), B.ofRows k0_pay23⟩,
  ⟨eighth 5 (by decide), B.ofRows k0_pay22⟩, ⟨eighth 4 (by decide), B.ofRows k0_pay21⟩,
  ⟨eighth 3 (by decide), B.ofRows k0_pay20⟩, ⟨eighth 2 (by decide), B.ofRows k0_pay19⟩,
  ⟨eighth 1 (by decide), B.ofRows k0_pay18⟩, ⟨eighth 0 (by decide), B.ofRows k0_pay17⟩]

/-- The buffer of the scores, a plane for each of the sixteen tables. -/
def outS : Vec F S16x128x256 .f32 := View.canon [
  ⟨plane 15 (by decide), k0_pay1 B.queries (View.ld B.sk (table 15 (by decide)))⟩,
  ⟨plane 14 (by decide), k0_pay40 B.queries (View.ld B.sk (table 14 (by decide)))⟩,
  ⟨plane 13 (by decide), k0_pay39 B.queries (View.ld B.sk (table 13 (by decide)))⟩,
  ⟨plane 12 (by decide), k0_pay38 B.queries (View.ld B.sk (table 12 (by decide)))⟩,
  ⟨plane 11 (by decide), k0_pay37 B.queries (View.ld B.sk (table 11 (by decide)))⟩,
  ⟨plane 10 (by decide), k0_pay36 B.queries (View.ld B.sk (table 10 (by decide)))⟩,
  ⟨plane 9 (by decide), k0_pay35 B.queries (View.ld B.sk (table 9 (by decide)))⟩,
  ⟨plane 8 (by decide), k0_pay34 B.queries (View.ld B.sk (table 8 (by decide)))⟩,
  ⟨plane 7 (by decide), k0_pay33 B.queries (View.ld B.sk (table 7 (by decide)))⟩,
  ⟨plane 6 (by decide), k0_pay32 B.queries (View.ld B.sk (table 6 (by decide)))⟩,
  ⟨plane 5 (by decide), k0_pay31 B.queries (View.ld B.sk (table 5 (by decide)))⟩,
  ⟨plane 4 (by decide), k0_pay30 B.queries (View.ld B.sk (table 4 (by decide)))⟩,
  ⟨plane 3 (by decide), k0_pay29 B.queries (View.ld B.sk (table 3 (by decide)))⟩,
  ⟨plane 2 (by decide), k0_pay28 B.normed (View.ld B.wq wholeQ) (View.ld B.sk (table 2 (by decide)))⟩,
  ⟨plane 1 (by decide), k0_pay27 B.normed (View.ld B.wq wholeQ) (View.ld B.sk (table 1 (by decide)))⟩,
  ⟨plane 0 (by decide), k0_pay26 B.normed (View.ld B.wq wholeQ) (View.ld B.sk (table 0 (by decide)))⟩]

end Blocks

/-- The one store of the mixed rows covers their buffer. -/
theorem rows_cover (v : Vec F S256x1024 .f32) (y : S256x1024.Idx) :
    ∃ pc ∈ ([⟨whole, v⟩] : List (View.Piece (Elt F) S256x1024 .f32)), y ∈ pc.1.set :=
  ⟨_, List.mem_singleton_self _, View.mem_set_unit_zero (by decide) (by decide) y⟩

/-- The eight sets of rows cover the buffer of the norms. -/
theorem norms_cover (p : Fin 8 → Vec F S256x128 .f32) (y : S2048x128.Idx) :
    ∃ pc ∈ ([⟨eighth 7 (by decide), p 7⟩, ⟨eighth 6 (by decide), p 6⟩, ⟨eighth 5 (by decide), p 5⟩, ⟨eighth 4 (by decide), p 4⟩,
      ⟨eighth 3 (by decide), p 3⟩, ⟨eighth 2 (by decide), p 2⟩, ⟨eighth 1 (by decide), p 1⟩, ⟨eighth 0 (by decide), p 0⟩] :
      List (View.Piece (Elt F) S2048x128 .f32)), y ∈ pc.1.set := by
  have inSet : ∀ (r : Nat) (hr : r < 8), (y 0 : Nat) % 8 = r → y ∈ (eighth r hr).set := by
    intro r hr h
    refine (LoadRect.mem_set _).mpr fun a => ?_
    have h0 : (y 0 : Nat) < 2048 := (y 0).isLt
    match a with
    | ⟨0, _⟩ => exact ⟨(y 0 : Nat) / 8, by show (y 0 : Nat) / 8 < 256; omega, by show (y 0 : Nat) = r + 8 * ((y 0 : Nat) / 8); omega⟩
    | ⟨1, _⟩ => exact ⟨(y 1 : Nat), (y 1).isLt, by show (y 1 : Nat) = 0 + 1 * (y 1 : Nat); omega⟩
  have h8 : (y 0 : Nat) % 8 < 8 := Nat.mod_lt _ (by decide)
  obtain h | h | h | h | h | h | h | h : (y 0 : Nat) % 8 = 7 ∨ (y 0 : Nat) % 8 = 6 ∨ (y 0 : Nat) % 8 = 5 ∨ (y 0 : Nat) % 8 = 4
      ∨ (y 0 : Nat) % 8 = 3 ∨ (y 0 : Nat) % 8 = 2 ∨ (y 0 : Nat) % 8 = 1 ∨ (y 0 : Nat) % 8 = 0 := by omega
  exacts [⟨_, List.mem_of_getElem? (i := 0) rfl, inSet 7 (by decide) h⟩, ⟨_, List.mem_of_getElem? (i := 1) rfl, inSet 6 (by decide) h⟩, ⟨_, List.mem_of_getElem? (i := 2) rfl, inSet 5 (by decide) h⟩, ⟨_, List.mem_of_getElem? (i := 3) rfl, inSet 4 (by decide) h⟩, ⟨_, List.mem_of_getElem? (i := 4) rfl, inSet 3 (by decide) h⟩, ⟨_, List.mem_of_getElem? (i := 5) rfl, inSet 2 (by decide) h⟩, ⟨_, List.mem_of_getElem? (i := 6) rfl, inSet 1 (by decide) h⟩, ⟨_, List.mem_of_getElem? (i := 7) rfl, inSet 0 (by decide) h⟩]

/-- The sixteen planes cover the buffer of the scores. -/
theorem scores_cover (p : Fin 16 → Vec F S1x128x256 .f32) (y : S16x128x256.Idx) :
    ∃ pc ∈ ([⟨plane 15 (by decide), p 15⟩, ⟨plane 14 (by decide), p 14⟩, ⟨plane 13 (by decide), p 13⟩, ⟨plane 12 (by decide), p 12⟩, ⟨plane 11 (by decide), p 11⟩, ⟨plane 10 (by decide), p 10⟩, ⟨plane 9 (by decide), p 9⟩, ⟨plane 8 (by decide), p 8⟩, ⟨plane 7 (by decide), p 7⟩, ⟨plane 6 (by decide), p 6⟩, ⟨plane 5 (by decide), p 5⟩, ⟨plane 4 (by decide), p 4⟩, ⟨plane 3 (by decide), p 3⟩, ⟨plane 2 (by decide), p 2⟩, ⟨plane 1 (by decide), p 1⟩, ⟨plane 0 (by decide), p 0⟩] :
      List (View.Piece (Elt F) S16x128x256 .f32)), y ∈ pc.1.set :=
  View.cover_of_tiled [⟨plane 15 (by decide), p 15⟩, ⟨plane 14 (by decide), p 14⟩, ⟨plane 13 (by decide), p 13⟩, ⟨plane 12 (by decide), p 12⟩, ⟨plane 11 (by decide), p 11⟩, ⟨plane 10 (by decide), p 10⟩, ⟨plane 9 (by decide), p 9⟩, ⟨plane 8 (by decide), p 8⟩, ⟨plane 7 (by decide), p 7⟩, ⟨plane 6 (by decide), p 6⟩, ⟨plane 5 (by decide), p 5⟩, ⟨plane 4 (by decide), p 4⟩, ⟨plane 3 (by decide), p 3⟩, ⟨plane 2 (by decide), p 2⟩, ⟨plane 1 (by decide), p 1⟩, ⟨plane 0 (by decide), p 0⟩]
    S1x128x256.size (by rfl) y

end Cert.MixIdeal.Gen

end
-- ==== Proof.MixIdealBody.lean ====
module

public import proofs.«01_k».proof.Proof.MixIdealBlocks
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

/-! The mixing kernel runs: at each grid point the body leaves its input buffers as they were and the three output
buffers at the block's values; from that, the run of the whole program and its unchanged arguments. -/

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- The buffers when the kernel is entered: after the host's operations. -/
abbrev V (c : Dev nD) (b : Ref sig .tc) : Buf (Elt F) ((c : Thread nD τ).loc b) :=
  StableHlo.after hostOps0 (fun b => m (c, b)) b

/-- The host's operations write arrays of their own. -/
theorem hostOps0_fresh : (hostOps0 : List (HloOp τ sig (Elt F))).Forall fun op => op.fresh = ∅ := by
  simp only [List.Forall]; repeat' constructor

set_option maxHeartbeats 800000 in
/-- The program is the host's operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An array the host's operations do not write is as it was launched. -/
theorem V_kept (c : Dev nD) (b : Ref sig .tc)
    (h : ∀ o ∈ (hostOps0 (F := F)), Proc.devRef .tc b ∉ o.writes) : V m c b = m ((c : Thread nD τ).loc b) :=
  StableHlo.after_of_forall_not_mem (b := Proc.devRef .tc b) _ _ h

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sixteen input blocks at point `t`. -/
def blocks (c : Dev nD) (t : Fin cfg0.N) : Blocks F where
  retg := iblk m c 0 t
  o1 := iblk m c 1 t
  o2 := iblk m c 2 t
  o3 := iblk m c 3 t
  l1 := iblk m c 4 t
  l2 := iblk m c 5 t
  l3 := iblk m c 6 t
  gr := iblk m c 7 t
  ga := iblk m c 8 t
  x := iblk m c 9 t
  wro := iblk m c 10 t
  wao := iblk m c 11 t
  wo := iblk m c 12 t
  g2 := iblk m c 13 t
  wq := iblk m c 14 t
  sk := iblk m c 15 t

/-! ## The body -/

set_option maxHeartbeats 4000000 in
/-- The body leaves its input buffers as they were and the three output buffers at the block's values. -/
theorem body_run (c : Dev nD) (E : Set ℕ) (i : grid0.Coords)
    (arg1 : Memref sig .tc .vmem S256x1024 .bf16) (harg1 : arg1.IsWhole)
    (arg2 : Memref sig .tc .vmem S4x256x128 .f32) (harg2 : arg2.IsWhole)
    (arg3 : Memref sig .tc .vmem S4x256x128 .f32) (harg3 : arg3.IsWhole)
    (arg4 : Memref sig .tc .vmem S4x256x128 .f32) (harg4 : arg4.IsWhole)
    (arg5 : Memref sig .tc .vmem S4x256x128 .f32) (harg5 : arg5.IsWhole)
    (arg6 : Memref sig .tc .vmem S4x256x128 .f32) (harg6 : arg6.IsWhole)
    (arg7 : Memref sig .tc .vmem S4x256x128 .f32) (harg7 : arg7.IsWhole)
    (arg8 : Memref sig .tc .vmem S256x1024 .bf16) (harg8 : arg8.IsWhole)
    (arg9 : Memref sig .tc .vmem S256x1024 .bf16) (harg9 : arg9.IsWhole)
    (arg10 : Memref sig .tc .vmem S256x1024 .f32) (harg10 : arg10.IsWhole)
    (arg11 : Memref sig .tc .vmem S1024x1024 .bf16) (harg11 : arg11.IsWhole)
    (arg12 : Memref sig .tc .vmem S512x1024 .bf16) (harg12 : arg12.IsWhole)
    (arg13 : Memref sig .tc .vmem S1024x1024 .bf16) (harg13 : arg13.IsWhole)
    (arg14 : Memref sig .tc .vmem S1x1024 .f32) (harg14 : arg14.IsWhole)
    (arg15 : Memref sig .tc .vmem S1024x2048 .bf16) (harg15 : arg15.IsWhole)
    (arg16 : Memref sig .tc .vmem S16x128x128 .bf16) (harg16 : arg16.IsWhole)
    (arg17 : Memref sig .tc .vmem S256x1024 .f32) (harg17 : arg17.IsWhole)
    (arg18 : Memref sig .tc .vmem S2048x128 .f32) (harg18 : arg18.IsWhole)
    (arg19 : Memref sig .tc .vmem S16x128x256 .f32) (harg19 : arg19.IsWhole)
    (B : Blocks F) (K : PUnit → sProp 𝕄) :
    iprop(owns (c : Thread nD τ) arg1 fullShare B.retg ∗ owns (c : Thread nD τ) arg2 fullShare B.o1 ∗ owns (c : Thread nD τ) arg3 fullShare B.o2 ∗ owns (c : Thread nD τ) arg4 fullShare B.o3 ∗ owns (c : Thread nD τ) arg5 fullShare B.l1 ∗ owns (c : Thread nD τ) arg6 fullShare B.l2 ∗ owns (c : Thread nD τ) arg7 fullShare B.l3 ∗ owns (c : Thread nD τ) arg8 fullShare B.gr ∗ owns (c : Thread nD τ) arg9 fullShare B.ga ∗ owns (c : Thread nD τ) arg10 fullShare B.x ∗ owns (c : Thread nD τ) arg11 fullShare B.wro ∗ owns (c : Thread nD τ) arg12 fullShare B.wao ∗ owns (c : Thread nD τ) arg13 fullShare B.wo ∗ owns (c : Thread nD τ) arg14 fullShare B.g2 ∗ owns (c : Thread nD τ) arg15 fullShare B.wq ∗ owns (c : Thread nD τ) arg16 fullShare B.sk
        ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare B.retg ∗ owns (c : Thread nD τ) arg2 fullShare B.o1 ∗ owns (c : Thread nD τ) arg3 fullShare B.o2 ∗ owns (c : Thread nD τ) arg4 fullShare B.o3 ∗ owns (c : Thread nD τ) arg5 fullShare B.l1 ∗ owns (c : Thread nD τ) arg6 fullShare B.l2 ∗ owns (c : Thread nD τ) arg7 fullShare B.l3 ∗ owns (c : Thread nD τ) arg8 fullShare B.gr ∗ owns (c : Thread nD τ) arg9 fullShare B.ga ∗ owns (c : Thread nD τ) arg10 fullShare B.x ∗ owns (c : Thread nD τ) arg11 fullShare B.wro ∗ owns (c : Thread nD τ) arg12 fullShare B.wao ∗ owns (c : Thread nD τ) arg13 fullShare B.wo ∗ owns (c : Thread nD τ) arg14 fullShare B.g2 ∗ owns (c : Thread nD τ) arg15 fullShare B.wq ∗ owns (c : Thread nD τ) arg16 fullShare B.sk
          ∗ owns (c : Thread nD τ) arg17 fullShare B.outH ∗ owns (c : Thread nD τ) arg18 fullShare B.outN ∗ owns (c : Thread nD τ) arg19 fullShare B.outS) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨b0, b1, b2, b3, b4, b5, b6, b7, b8, b9, b10, b11, b12, b13, b14, b15⟩ := B
  simp only [cc0_mix_eq_skeleton]; unfold cc0_mix_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr; swap
    · iexact H16
    ipureintro
    refine (View.read_writes_eq_canon _ _ _ (rows_cover _)).trans ?_
    rfl
  isplitl [H17]
  · iexists _; isplitr; swap
    · iexact H17
    ipureintro
    refine (View.read_writes_eq_canon _ _ _ (norms_cover ![_, _, _, _, _, _, _, _])).trans ?_
    rfl
  iexists _; isplitr; swap
  · iexact H18
  ipureintro
  refine (View.read_writes_eq_canon _ _ _ (scores_cover ![_, _, _, _, _, _, _, _, _, _, _, _, _, _, _, _])).trans ?_
  rfl

/-! ## The pipeline's proof data -/

/-- After the body at point `t` each input's buffer is its block and each output's is the block's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (blocks m c t).outH
    | ⟨17, _⟩ => (blocks m c t).outN
    | ⟨18, _⟩ => (blocks m c t).outS
    | ⟨n + 19, h⟩ => absurd h (Nat.not_lt.mpr (Nat.le_add_left 19 n))
  Φ _ := Pipeline.ΦA spec0 c
  q w := Pipeline.shareOf spec0 w
  owed _ := 0

/-- The arrays are those the kernel is entered with. -/
theorem A_eq (c : Dev nD) (w : Fin cfg0.W) : (dats m 0 c).A w = V m c (Pipeline.arrRef spec0 w) := by
  dsimp only [dats]

/-- What the body leaves in the three output buffers. -/
theorem after_h (c : Dev nD) (t : Fin cfg0.N) : (dats m 0 c).after 16 t = (blocks m c t).outH := by dsimp only [dats]
theorem after_n (c : Dev nD) (t : Fin cfg0.N) : (dats m 0 c).after 17 t = (blocks m c t).outN := by dsimp only [dats]
theorem after_s (c : Dev nD) (t : Fin cfg0.N) : (dats m 0 c).after 18 t = (blocks m c t).outS := by dsimp only [dats]

/-- What the body leaves in the input buffers. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]

/-- An input's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl)
    (fun t => by rw [after_15]; unfold Dat.blockOf iblk; rw [A_eq]; try rfl) t d).trans
    (by unfold Dat.fetched Dat.blockOf iblk; rw [A_eq]; try rfl)

/-! ## The body at a grid point -/

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- … and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at a grid point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_h, after_n, after_s]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run c Set.univ (grid0.coords t) _ _ _ _ _ _ _ _ _ _ _ _ _ _ _ _ _ _ _ _ _ _ _ _ _ _ _ _ _ _ _ _ _ _ _ _ _ _ (blocks m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The table's row at point `t` is the body there. -/
theorem defs₀_row (t : Fin cfg0.N) : defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run -/

set_option backward.isDefEq.respectTransparency.types false in
set_option maxHeartbeats 800000 in
/-- The program runs: every array of the pipeline ends at what the proof data says, every other buffer as the kernel
    found it, and no semaphore counts. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- No argument array is written by the host's operations. -/
theorem V_arg (c : Dev nD) :
    V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7)
    ∧ V m c main_arg8 = m ((c : Thread nD τ).loc main_arg8)
    ∧ V m c main_arg9 = m ((c : Thread nD τ).loc main_arg9)
    ∧ V m c main_arg10 = m ((c : Thread nD τ).loc main_arg10)
    ∧ V m c main_arg11 = m ((c : Thread nD τ).loc main_arg11)
    ∧ V m c main_arg12 = m ((c : Thread nD τ).loc main_arg12)
    ∧ V m c main_arg13 = m ((c : Thread nD τ).loc main_arg13)
    ∧ V m c main_arg14 = m ((c : Thread nD τ).loc main_arg14) := by
  repeat' apply And.intro
  all_goals
    refine V_kept m c _ (List.forall_iff_forall_mem.mp ?_)
    simp only [hostOps0, List.Forall, StableHlo.unary_writes, StableHlo.reshape_writes, Finset.mem_singleton]
    repeat' apply And.intro
    all_goals exact StableHlo.devRef_ne_of_ne (by decide)

/-- After the run the argument arrays are as they were. -/
theorem kept : ∀ r, Pipeline.FramePost cfgs (dats (F := F) m) 0 (V m) r → ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := fun r h c => by
  obtain ⟨a0, a1, a2, a3, a4, a5, a6, a7, a8, a9, a10, a11, a12, a13, a14⟩ := V_arg m c
  have staged : ∀ (w : Fin cfg0.W), (cfg0.spec w).isOut = false →
      r.2.mem ((c.tc : Thread nD τ).loc (Pipeline.arrRef spec0 w)) = V m c (Pipeline.arrRef spec0 w) :=
    fun w hw => ((h c).1 w).trans (((dats m 0 c).arrAt_in w hw _).trans (A_eq m c w))
  have unstaged : ∀ (b : Ref sig .tc) (hb : b ∈ Pipeline.restRefs sig spec0),
      r.2.mem ((c.tc : Thread nD τ).loc b) = V m c b := fun b hb => (h c).2 b hb
  exact ⟨(staged 0 rfl).trans a0,
    (staged 1 rfl).trans a1,
    (staged 2 rfl).trans a2,
    (staged 3 rfl).trans a3,
    (staged 4 rfl).trans a4,
    (staged 5 rfl).trans a5,
    (staged 6 rfl).trans a6,
    (staged 7 rfl).trans a7,
    (staged 9 rfl).trans a8,
    (unstaged main_arg9 (Pipeline.mem_restRefs_of main_arg9 (by decide) (by decide))).trans a9,
    (unstaged main_arg10 (Pipeline.mem_restRefs_of main_arg10 (by decide) (by decide))).trans a10,
    (unstaged main_arg11 (Pipeline.mem_restRefs_of main_arg11 (by decide) (by decide))).trans a11,
    (unstaged main_arg12 (Pipeline.mem_restRefs_of main_arg12 (by decide) (by decide))).trans a12,
    (unstaged main_arg13 (Pipeline.mem_restRefs_of main_arg13 (by decide) (by decide))).trans a13,
    (unstaged main_arg14 (Pipeline.mem_restRefs_of main_arg14 (by decide) (by decide))).trans a14⟩

/-- The frame: the argument arrays end as they were, and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨kept m r h.1, h.2⟩) (run_main m ρ)

end Cert.MixIdeal.Gen

end
-- ==== Proof.MixSpec.lean ====
module

public import Idealize.ShloMosaic.Lib.Pointwise

/-! The mathematics of the mixing: what becomes of one token. -/

@[expose] public section

noncomputable section

namespace Cert.MixSpec

open Idealize.ShloMosaic

/-- What the mixing takes of one token. -/
@[ext] structure Row where
  /-- The retention's row. -/
  ret : Fin 1024 → EReal
  /-- What the three head groups give, by head and component. -/
  o1 : Fin 4 → Fin 128 → EReal
  o2 : Fin 4 → Fin 128 → EReal
  o3 : Fin 4 → Fin 128 → EReal
  /-- The logarithms of their sums of weights. -/
  l1 : Fin 4 → Fin 128 → EReal
  l2 : Fin 4 → Fin 128 → EReal
  l3 : Fin 4 → Fin 128 → EReal
  /-- The two branches' gates before the sigmoid. -/
  gr : Fin 1024 → EReal
  ga : Fin 1024 → EReal
  /-- The layer's input. -/
  x : Fin 1024 → EReal

/-- What all tokens share. -/
@[ext] structure Weights where
  /-- The output projections of the two branches, … -/
  wro : Fin 1024 → Fin 1024 → EReal
  wao : Fin 512 → Fin 1024 → EReal
  /-- … the output projection of their sum, … -/
  wo : Fin 1024 → Fin 1024 → EReal
  /-- … the gain of the norm, … -/
  g : Fin 1024 → EReal
  /-- … the projection to the memory's queries … -/
  wq : Fin 1024 → Fin 2048 → EReal
  /-- … and the memory's sixteen tables of sub-keys. -/
  sk : Fin 16 → Fin 128 → Fin 128 → EReal

/-- The head and the component of a column of the attention's rows. -/
def headOf (k : Fin 512) : Fin 4 := ⟨k.val / 128, by omega⟩
def partOf (k : Fin 512) : Fin 128 := ⟨k.val % 128, by omega⟩

/-- Component `c` of query `p`. -/
def queryCol (p : Fin 16) (c : Fin 128) : Fin 2048 := ⟨128 * p.val + c.val, by omega⟩

variable (W : Weights) (T : Row)

/-- The largest of the three logarithms. -/
def big (h : Fin 4) (d : Fin 128) : EReal := max (max (T.l1 h d) (T.l2 h d)) (T.l3 h d)

/-- The weights of the three head groups relative to the largest. -/
def e1 (h : Fin 4) (d : Fin 128) : EReal := Ideal.exp (T.l1 h d - big T h d)
def e2 (h : Fin 4) (d : Fin 128) : EReal := Ideal.exp (T.l2 h d - big T h d)
def e3 (h : Fin 4) (d : Fin 128) : EReal := Ideal.exp (T.l3 h d - big T h d)

/-- The weighted mean of the three head groups. -/
def mean (h : Fin 4) (d : Fin 128) : EReal :=
  Ideal.div (e1 T h d * T.o1 h d + e2 T h d * T.o2 h d + e3 T h d * T.o3 h d) (e1 T h d + e2 T h d + e3 T h d)

/-- The gated sum of the two branches. -/
def merged (j : Fin 1024) : EReal :=
  Ideal.logistic (T.gr j) * (∑ k : Fin 1024, T.ret k * W.wro k j)
    + Ideal.logistic (T.ga j) * (∑ k : Fin 512, mean T (headOf k) (partOf k) * W.wao k j)

/-- The layer's input plus the projected sum. -/
def mixed (j : Fin 1024) : EReal := T.x j + ∑ k : Fin 1024, merged W T k * W.wo k j

/-- The root mean square norm of that row. -/
def normed (j : Fin 1024) : EReal :=
  mixed W T j * Ideal.rsqrt (Ideal.div (∑ k : Fin 1024, mixed W T k * mixed W T k) (Ideal.ofBits FTy.f32 0x44800000#32)
    + Ideal.ofBits FTy.f32 0x358637BD#32) * W.g j

/-- The memory's queries. -/
def query (j : Fin 2048) : EReal := ∑ k : Fin 1024, normed W T k * W.wq k j

/-- The score of sub-key `n` of table `p`. -/
def score (p : Fin 16) (n : Fin 128) : EReal := ∑ c : Fin 128, W.sk p n c * query W T (queryCol p c)

/-- The fifteen arguments. -/
structure Args where
  /-- The retention, three outputs, three logarithms, the first projection's columns and the layer's input; … -/
  R : (⟨2, ![32768, 1024]⟩ : Shape).Idx → EReal
  O1 : (⟨3, ![4, 32768, 128]⟩ : Shape).Idx → EReal
  O2 : (⟨3, ![4, 32768, 128]⟩ : Shape).Idx → EReal
  O3 : (⟨3, ![4, 32768, 128]⟩ : Shape).Idx → EReal
  L1 : (⟨3, ![4, 32768, 128]⟩ : Shape).Idx → EReal
  L2 : (⟨3, ![4, 32768, 128]⟩ : Shape).Idx → EReal
  L3 : (⟨3, ![4, 32768, 128]⟩ : Shape).Idx → EReal
  M : (⟨2, ![32768, 5120]⟩ : Shape).Idx → EReal
  X : (⟨2, ![32768, 1024]⟩ : Shape).Idx → EReal
  /-- … the weights. -/
  WR : (⟨3, ![1, 1024, 1024]⟩ : Shape).Idx → EReal
  WA : (⟨3, ![1, 512, 1024]⟩ : Shape).Idx → EReal
  WO : (⟨3, ![1, 1024, 1024]⟩ : Shape).Idx → EReal
  G : (⟨2, ![1, 1024]⟩ : Shape).Idx → EReal
  WQ : (⟨3, ![1, 1024, 2048]⟩ : Shape).Idx → EReal
  SK : (⟨5, ![1, 8, 2, 128, 128]⟩ : Shape).Idx → EReal

/-- The gates' columns of the first projection. -/
def gateR (j : Fin 1024) : Fin 5120 := ⟨3072 + j.val, by omega⟩
def gateA (j : Fin 1024) : Fin 5120 := ⟨4096 + j.val, by omega⟩

variable (A : Args)

/-- Token `t`. -/
def Args.token (t : Fin 32768) : Row where
  ret k := A.R (ix2 t k)
  o1 h d := A.O1 (ix3 h t d)
  o2 h d := A.O2 (ix3 h t d)
  o3 h d := A.O3 (ix3 h t d)
  l1 h d := A.L1 (ix3 h t d)
  l2 h d := A.L2 (ix3 h t d)
  l3 h d := A.L3 (ix3 h t d)
  gr j := A.M (ix2 t (gateR j))
  ga j := A.M (ix2 t (gateA j))
  x j := A.X (ix2 t j)

/-- The weights. -/
def Args.weights : Weights where
  wro k j := A.WR (ix3 0 k j)
  wao k j := A.WA (ix3 0 k j)
  wo k j := A.WO (ix3 0 k j)
  g j := A.G (ix2 0 j)
  wq k j := A.WQ (ix3 0 k j)
  sk p n c := A.SK (ix5 0 ⟨p.val / 2, by omega⟩ ⟨p.val % 2, by omega⟩ n c)

/-- The first result: every token's mixed row. -/
def mixedArr : (⟨2, ![32768, 1024]⟩ : Shape).Idx → EReal := fun i => mixed A.weights (A.token (i 0)) (i 1)

/-- The second result: every token's norm, eight rows of 128 to a token. -/
def normsArr : (⟨2, ![262144, 128]⟩ : Shape).Idx → EReal := fun i =>
  normed A.weights (A.token ⟨(i 0).val / 8, by have : (i 0).val < 262144 := (i 0).isLt; omega⟩)
    ⟨(i 0).val % 8 * 128 + (i 1).val, by have : (i 1).val < 128 := (i 1).isLt; omega⟩

/-- The third result: every table's scores, by sub-key and token. -/
def scoresArr : (⟨3, ![16, 128, 32768]⟩ : Shape).Idx → EReal := fun i => score A.weights (A.token (i 2)) (i 0) (i 1)

/-! ## The mean with each weight divided -/

/-- The weighted mean, each weight divided by their sum first. -/
def meanOfShares (h : Fin 4) (d : Fin 128) : EReal :=
  Ideal.div (e1 T h d) (e1 T h d + e2 T h d + e3 T h d) * T.o1 h d
    + Ideal.div (e2 T h d) (e1 T h d + e2 T h d + e3 T h d) * T.o2 h d
    + Ideal.div (e3 T h d) (e1 T h d + e2 T h d + e3 T h d) * T.o3 h d

/-- Dividing a weighted sum by a positive number is dividing each of its three positive weights, whatever the values. -/
theorem div_shares (a b c D : ℝ) (ha : 0 < a) (hb : 0 < b) (hc : 0 < c) (hD : 0 < D) (x y z : EReal) :
    Ideal.div (a * x + b * y + c * z) (D : EReal)
      = Ideal.div (a : EReal) D * x + Ideal.div (b : EReal) D * y + Ideal.div (c : EReal) D * z := by
  have hr : (0 : EReal) ≤ ((1 / D : ℝ) : EReal) := by exact_mod_cast (one_div_pos.mpr hD).le
  have ht : ((1 / D : ℝ) : EReal) ≠ ⊤ := EReal.coe_ne_top _
  simp only [Ideal.div_coe hD.ne']
  rw [EReal.right_distrib_of_nonneg_of_ne_top hr ht, EReal.right_distrib_of_nonneg_of_ne_top hr ht]
  rw [mul_right_comm (a : EReal), mul_right_comm (b : EReal), mul_right_comm (c : EReal)]

/-- On real logarithms the weights are positive numbers. -/
theorem weights_pos (h : Fin 4) (d : Fin 128) (r1 r2 r3 : ℝ) (h1 : T.l1 h d = r1) (h2 : T.l2 h d = r2) (h3 : T.l3 h d = r3) :
    ∃ a b c : ℝ, 0 < a ∧ 0 < b ∧ 0 < c ∧ e1 T h d = a ∧ e2 T h d = b ∧ e3 T h d = c := by
  have hm : big T h d = ((max (max r1 r2) r3 : ℝ) : EReal) := by
    unfold big
    rw [h1, h2, h3, EReal.coe_strictMono.monotone.map_max, EReal.coe_strictMono.monotone.map_max]
  refine ⟨Real.exp (r1 - max (max r1 r2) r3), Real.exp (r2 - max (max r1 r2) r3), Real.exp (r3 - max (max r1 r2) r3),
    Real.exp_pos _, Real.exp_pos _, Real.exp_pos _, ?_, ?_, ?_⟩
  · unfold e1; rw [hm, h1, ← EReal.coe_sub, Ideal.exp_coe]
  · unfold e2; rw [hm, h2, ← EReal.coe_sub, Ideal.exp_coe]
  · unfold e3; rw [hm, h3, ← EReal.coe_sub, Ideal.exp_coe]

/-- On real logarithms the two ways to the mean agree. -/
theorem meanOfShares_eq (h : Fin 4) (d : Fin 128) (r1 r2 r3 : ℝ) (h1 : T.l1 h d = r1) (h2 : T.l2 h d = r2) (h3 : T.l3 h d = r3) :
    meanOfShares T h d = mean T h d := by
  obtain ⟨a, b, c, ha, hb, hc, ea, eb, ec⟩ := weights_pos T h d r1 r2 r3 h1 h2 h3
  unfold meanOfShares mean
  rw [ea, eb, ec, ← EReal.coe_add, ← EReal.coe_add]
  exact (div_shares a b c (a + b + c) ha hb hc (by positivity) _ _ _).symm

end Cert.MixSpec

end
-- ==== Proof.MixValue.lean ====
module

public import proofs.«01_k».proof.Proof.MixIdealBlocks
public import proofs.«01_k».proof.Proof.MixSpec
public import Idealize.ShloMosaic.Lib.Pipeline.ValueKit
public import Idealize.ShloMosaic.Lib.Pipeline.Value
public import Idealize.ShloMosaic.Lib.Pointwise

/-! One block of the mixing: each row the body leaves is the mixing of that row's token. -/

@[expose] public section

set_option maxRecDepth 16384

noncomputable section

namespace Cert.MixIdeal.Value

open Cert.MixIdeal Cert.MixIdeal.Gen Idealize.ShloMosaic Idealize.ShloMosaic.TcCoe Cert.MixSpec

variable (B : Blocks Ideal)

/-- The token of row `r` of the block. -/
def row (r : Fin 256) : Row where
  ret k := B.retg (ix2 r k)
  o1 h d := B.o1 (ix3 h r d)
  o2 h d := B.o2 (ix3 h r d)
  o3 h d := B.o3 (ix3 h r d)
  l1 h d := B.l1 (ix3 h r d)
  l2 h d := B.l2 (ix3 h r d)
  l3 h d := B.l3 (ix3 h r d)
  gr j := B.gr (ix2 r j)
  ga j := B.ga (ix2 r j)
  x j := B.x (ix2 r j)

/-- The block's weights. -/
def weights : Weights where
  wro k j := B.wro (ix2 k j)
  wao k j := B.wao (ix2 k j)
  wo k j := B.wo (ix2 k j)
  g j := B.g2 (ix2 0 j)
  wq k j := B.wq (ix2 k j)
  sk p n c := B.sk (ix3 p n c)

/-- The offset `(0, 0)` is zero. -/
theorem off_zero : (![0, 0] : Fin 2 → Nat) = fun _ => 0 := by funext a; fin_cases a <;> rfl

/-- Four heads side by side. -/
abbrev side (f : Vec Ideal S4x256x128 .f32) : FVec Ideal S256x512 .f32 :=
  k0_pay2 (View.ld f (head 0 (by decide))) (View.ld f (head 1 (by decide))) (View.ld f (head 2 (by decide))) (View.ld f (head 3 (by decide)))

/-- An entry of the four heads side by side. -/
theorem side_apply (f : Vec Ideal S4x256x128 .f32) (r : Fin 256) (k : Fin 512) :
    (side f (ix2 r k) : EReal) = f (ix3 (headOf k) r (partOf k)) := by
  have hk := k.isLt
  unfold side k0_pay2
  pointwise
  split_ifs
  all_goals
    refine congrArg f (funext fun a => Fin.ext ?_)
    match a with
    | ⟨0, _⟩ => simp [headOf]; omega
    | ⟨1, _⟩ => rfl
    | ⟨2, _⟩ => simp [partOf]; omega

/-- The product of a block of rows with a square weight. -/
theorem mul_square (a : FVec Ideal S256x1024 .bf16) (b : FVec Ideal S1024x1024 .bf16) (r : Fin 256) (j : Fin 1024) :
    (matmul dot_S256x1024_S1024x1024_S256x1024_1_0_0_1_n_n none a (shapeCast S1024x1024 b shapeCasts_S1024x1024_S1024x1024 : FVec Ideal S1024x1024 .bf16) (constant S256x1024 .f32 0x00000000#32) (ix2 r j) : EReal)
      = ∑ k : Fin 1024, (a (ix2 r k) : EReal) * (b (ix2 k j) : EReal) := by
  pointwise

/-- The product of the attention's rows with their weight. -/
theorem mul_tall (a : FVec Ideal S256x512 .bf16) (b : FVec Ideal S512x1024 .bf16) (r : Fin 256) (j : Fin 1024) :
    (matmul dot_S256x512_S512x1024_S256x1024_1_0_0_1_n_n none a (shapeCast S512x1024 b shapeCasts_S512x1024_S512x1024 : FVec Ideal S512x1024 .bf16) (constant S256x1024 .f32 0x00000000#32) (ix2 r j) : EReal)
      = ∑ k : Fin 512, (a (ix2 r k) : EReal) * (b (ix2 k j) : EReal) := by
  pointwise

/-- The product with the queries' weight. -/
theorem mul_wide (a : FVec Ideal S256x1024 .bf16) (b : FVec Ideal S1024x2048 .bf16) (r : Fin 256) (j : Fin 2048) :
    (matmul dot_S256x1024_S1024x2048_S256x2048_1_0_0_1_n_n none a (shapeCast S1024x2048 b shapeCasts_S1024x2048_S1024x2048 : FVec Ideal S1024x2048 .bf16) (constant S256x2048 .f32 0x00000000#32) (ix2 r j) : EReal)
      = ∑ k : Fin 1024, (a (ix2 r k) : EReal) * (b (ix2 k j) : EReal) := by
  pointwise

/-- The product of a table of sub-keys with a block of queries. -/
theorem mul_keys (a : FVec Ideal S128x128 .bf16) (b : FVec Ideal S256x128 .bf16) (n : Fin 128) (r : Fin 256) :
    (matmul dot_S128x128_S256x128_S128x256_1_1_0_0_n_n none a b (constant S128x256 .f32 0x00000000#32) (ix2 n r) : EReal)
      = ∑ c : Fin 128, (a (ix2 n c) : EReal) * (b (ix2 r c) : EReal) := by
  pointwise

/-- A table or a plane with or without its leading axis. -/
theorem drop_lead (v : Vec Ideal S1x128x128 .bf16) (n c : Fin 128) :
    (shapeCast S128x128 v shapeCasts_S1x128x128_S128x128 (ix2 n c) : EReal) = v (ix3 0 n c) := by
  pointwise
theorem add_lead (v : FVec Ideal S128x256 .f32) (n : Fin 128) (r : Fin 256) :
    (shapeCast S1x128x256 v shapeCasts_S128x256_S1x128x256 (ix3 0 n r) : EReal) = v (ix2 n r) := by
  pointwise

/-- The whole blocks, read. -/
theorem ld_rows (f : Vec Ideal S256x1024 .bf16) : View.ld f whole = f := View.ld_unit_zero off_zero _ f
theorem ld_input (f : Vec Ideal S256x1024 .f32) : View.ld f whole = f := View.ld_unit_zero off_zero _ f
theorem ld_square (f : Vec Ideal S1024x1024 .bf16) : View.ld f wholeW = f := View.ld_unit_zero off_zero _ f
theorem ld_tall (f : Vec Ideal S512x1024 .bf16) : View.ld f wholeA = f := View.ld_unit_zero off_zero _ f
theorem ld_gain (f : Vec Ideal S1x1024 .f32) : View.ld f wholeG = f := View.ld_unit_zero off_zero _ f
theorem ld_wide (f : Vec Ideal S1024x2048 .bf16) : View.ld f wholeQ = f := View.ld_unit_zero off_zero _ f

variable (r : Fin 256)

/-- The largest of the three logarithms, in the block's layout. -/
theorem big_apply (k : Fin 512) :
    max (max (side B.l1 (ix2 r k) : EReal) (side B.l2 (ix2 r k))) (side B.l3 (ix2 r k)) = big (row B r) (headOf k) (partOf k) := by
  rw [side_apply, side_apply, side_apply]
  rfl

/-- The first group's weight. -/
theorem part30_apply (k : Fin 512) : (B.part30 (ix2 r k) : EReal) = e1 (row B r) (headOf k) (partOf k) := by
  change Ideal.exp (side B.l1 (ix2 r k) - max (max (side B.l1 (ix2 r k) : EReal) (side B.l2 (ix2 r k))) (side B.l3 (ix2 r k))) = _
  rw [big_apply, side_apply]
  rfl

/-- The second group's weight. -/
theorem part32_apply (k : Fin 512) : (B.part32 (ix2 r k) : EReal) = e2 (row B r) (headOf k) (partOf k) := by
  change Ideal.exp (side B.l2 (ix2 r k) - max (max (side B.l1 (ix2 r k) : EReal) (side B.l2 (ix2 r k))) (side B.l3 (ix2 r k))) = _
  rw [big_apply, side_apply]
  rfl

/-- The third group's weight. -/
theorem part34_apply (k : Fin 512) : (B.part34 (ix2 r k) : EReal) = e3 (row B r) (headOf k) (partOf k) := by
  change Ideal.exp (side B.l3 (ix2 r k) - max (max (side B.l1 (ix2 r k) : EReal) (side B.l2 (ix2 r k))) (side B.l3 (ix2 r k))) = _
  rw [big_apply, side_apply]
  rfl

/-- The first two groups' share of the weighted sum. -/
theorem part55_apply (k : Fin 512) : (B.part55 (ix2 r k) : EReal)
    = e1 (row B r) (headOf k) (partOf k) * (row B r).o1 (headOf k) (partOf k)
      + e2 (row B r) (headOf k) (partOf k) * (row B r).o2 (headOf k) (partOf k) := by
  change (B.part30 (ix2 r k) : EReal) * side B.o1 (ix2 r k) + (B.part32 (ix2 r k) : EReal) * side B.o2 (ix2 r k) = _
  rw [part30_apply, part32_apply, side_apply, side_apply]
  rfl

/-- The block of weighted means. -/
def means : FVec Ideal S256x512 .bf16 :=
  truncf .bf16 (divf (addf B.part55 (mulf B.part34 (side B.o3))) (addf (addf B.part30 B.part32) B.part34)) bitsLt_bf16_f32

/-- An entry of it. -/
theorem means_apply (k : Fin 512) : (means B (ix2 r k) : EReal) = mean (row B r) (headOf k) (partOf k) := by
  change Ideal.div ((B.part55 (ix2 r k) : EReal) + (B.part34 (ix2 r k) : EReal) * side B.o3 (ix2 r k))
    ((B.part30 (ix2 r k) : EReal) + B.part32 (ix2 r k) + B.part34 (ix2 r k)) = _
  rw [part55_apply, part34_apply, part30_apply, part32_apply, side_apply]
  rfl

/-- The gated sum of the two branches, operation by operation. -/
theorem gated_eq (j : Fin 1024) : (B.gated (ix2 r j) : EReal)
    = Ideal.logistic (View.ld B.gr whole (ix2 r j))
        * (matmul (φ₁ := .bf16) dot_S256x1024_S1024x1024_S256x1024_1_0_0_1_n_n none (View.ld B.retg whole : FVec Ideal S256x1024 .bf16)
            (shapeCast S1024x1024 (View.ld B.wro wholeW) shapeCasts_S1024x1024_S1024x1024 : FVec Ideal S1024x1024 .bf16)
            (constant S256x1024 .f32 0x00000000#32) (ix2 r j) : EReal)
      + Ideal.logistic (View.ld B.ga whole (ix2 r j))
        * (matmul dot_S256x512_S512x1024_S256x1024_1_0_0_1_n_n none (means B)
            (shapeCast S512x1024 (View.ld B.wao wholeA) shapeCasts_S512x1024_S512x1024 : FVec Ideal S512x1024 .bf16)
            (constant S256x1024 .f32 0x00000000#32) (ix2 r j) : EReal) := by
  unfold Blocks.gated k0_pay13 means
  rfl

/-- The gated sum of the two branches is the token's. -/
theorem gated_apply (j : Fin 1024) : (B.gated (ix2 r j) : EReal) = merged (weights B) (row B r) j := by
  rw [gated_eq, mul_square, mul_tall, ld_rows, ld_rows, ld_rows, ld_square, ld_tall]
  simp only [means_apply]
  rfl

/-- The mixed rows are the tokens'. -/
theorem rows_apply (j : Fin 1024) : (B.rows (ix2 r j) : EReal) = mixed (weights B) (row B r) j := by
  change (View.ld B.x whole (ix2 r j) : EReal) + (matmul dot_S256x1024_S1024x1024_S256x1024_1_0_0_1_n_n none B.gated
      (shapeCast S1024x1024 (View.ld B.wo wholeW) shapeCasts_S1024x1024_S1024x1024 : FVec Ideal S1024x1024 .bf16)
      (constant S256x1024 .f32 0x00000000#32) (ix2 r j) : EReal) = _
  rw [mul_square, ld_input, ld_square]
  simp only [gated_apply]
  rfl

/-- The norm of a block of rows, entry by entry. -/
theorem norm_block (h : FVec Ideal S256x1024 .f32) (g : Vec Ideal S1x1024 .f32) (j : Fin 1024) :
    (mulf (mulf h (broadcastTo S256x1024 (rsqrt (addf (divf (shapeCast S256x1 (multiReduction .add [1] S256 (mulf h h) 0x00000000#32
        reduces_S256x1024_S256 (.inl rfl) rfl) shapeCasts_S256_S256x1) (broadcast S256x1 (Scalar.ofBits .f32 0x44800000#32 : Ideal .f32)))
        (broadcast S256x1 (Scalar.ofBits .f32 0x358637BD#32 : Ideal .f32)))) broadcasts_S256x1_S256x1024))
        (broadcastTo S256x1024 (shapeCast S1x1024 g shapeCasts_S1x1024_S1x1024 : FVec Ideal S1x1024 .f32) broadcasts_S1x1024_S256x1024) (ix2 r j) : EReal)
      = (h (ix2 r j) : EReal) * Ideal.rsqrt (Ideal.div (∑ k : Fin 1024, (h (ix2 r k) : EReal) * (h (ix2 r k) : EReal))
          (Ideal.ofBits FTy.f32 0x44800000#32) + Ideal.ofBits FTy.f32 0x358637BD#32) * (g (ix2 0 j) : EReal) := by
  pointwise

/-- The norms are the tokens'. -/
theorem normed_apply (j : Fin 1024) : (B.normed (ix2 r j) : EReal) = normed (weights B) (row B r) j := by
  refine (norm_block r B.rows (View.ld B.g2 wholeG) j).trans ?_
  rw [ld_gain]
  simp only [rows_apply]
  rfl

/-- The queries are the tokens'. -/
theorem queries_apply (j : Fin 2048) : (B.queries (ix2 r j) : EReal) = query (weights B) (row B r) j := by
  refine (mul_wide (truncf .bf16 B.normed bitsLt_bf16_f32) (View.ld B.wq wholeQ) r j).trans ?_
  rw [ld_wide]
  change ∑ k : Fin 1024, (B.normed (ix2 r k) : EReal) * (B.wq (ix2 k j) : EReal) = _
  simp only [normed_apply]
  rfl

/-- A table of sub-keys without its leading axis. -/
theorem table_apply (f : Vec Ideal S16x128x128 .bf16) (p : Nat) (hp : p + 1 ≤ 16) (n c : Fin 128) :
    (shapeCast S128x128 (View.ld f (table p hp)) shapeCasts_S1x128x128_S128x128 (ix2 n c) : EReal) = f (ix3 ⟨p, hp⟩ n c) := by
  refine (drop_lead (View.ld f (table p hp)) n c).trans ?_
  refine congrArg f (funext fun a => Fin.ext ?_)
  match a with
  | ⟨0, _⟩ => show p + 1 * 0 = p; omega
  | ⟨1, _⟩ => show 0 + 1 * n.val = n.val; omega
  | ⟨2, _⟩ => show 0 + 1 * c.val = c.val; omega

/-- One plane of scores: the products of a table's sub-keys with the queries of its columns. -/
def planeOf (p : Nat) (hp : p + 1 ≤ 16) (h : S256x2048.Slices ![0, 128 * p] S256x128) : FVec Ideal S1x128x256 .f32 :=
  shapeCast S1x128x256 (matmul dot_S128x128_S256x128_S128x256_1_1_0_0_n_n none
    (shapeCast S128x128 (View.ld B.sk (table p hp)) shapeCasts_S1x128x128_S128x128 : FVec Ideal S128x128 .bf16)
    (extractStridedSlice S256x128 ![0, 128 * p] B.queries h : FVec Ideal S256x128 .bf16)
    (constant S128x256 .f32 0x00000000#32)) shapeCasts_S128x256_S1x128x256

/-- The scores of token, table and sub-key, as an array. -/
def scoresOf : Vec Ideal S16x128x256 .f32 := fun y => score (weights B) (row B (y 2)) (y 0) (y 1)

/-- A plane of scores is that plane of the tokens' scores. -/
theorem plane_apply (p : Nat) (hp : p + 1 ≤ 16) (h : S256x2048.Slices ![0, 128 * p] S256x128) (x : S1x128x256.Idx) :
    planeOf B p hp h x = scoresOf B ((plane p hp).emb x) := by
  obtain ⟨n, r, rfl⟩ : ∃ (n : Fin 128) (r : Fin 256), x = ix3 0 n r :=
    ⟨x 1, x 2, (eq_ix3 x).trans (congrArg (fun z => ix3 z (x 1) (x 2)) (Subsingleton.elim (α := Fin 1) _ _))⟩
  refine (add_lead _ n r).trans ?_
  refine (mul_keys _ _ n r).trans ?_
  have e0 : (plane p hp).emb (ix3 0 n r) 0 = (⟨p, hp⟩ : Fin 16) := Fin.ext (show p + 1 * 0 = p by omega)
  have e1 : (plane p hp).emb (ix3 0 n r) 1 = n := Fin.ext (show 0 + 1 * n.val = n.val by omega)
  have e2 : (plane p hp).emb (ix3 0 n r) 2 = r := Fin.ext (show 0 + 1 * r.val = r.val by omega)
  unfold scoresOf score
  rw [e0, e1, e2]
  refine Finset.sum_congr rfl fun c _ => ?_
  rw [table_apply, extractStridedSlice_apply ![0, 128 * p] B.queries h (ix2 r c) (ix2 r (queryCol ⟨p, hp⟩ c)) (fun a => by
    match a with
    | ⟨0, _⟩ => show r.val = 0 + r.val; omega
    | ⟨1, _⟩ => show 128 * p + c.val = 128 * p + c.val; rfl), queries_apply]
  rfl

/-- The buffer of the scores holds the tokens' scores. -/
theorem outS_eq : B.outS = scoresOf B := by
  funext y
  refine View.canon_apply_of_pieces (scoresOf B) _ ?_ y (scores_cover ![_, _, _, _, _, _, _, _, _, _, _, _, _, _, _, _] y)
  simp only [List.forall_mem_cons]
  exact ⟨plane_apply B 15 _ slices_S256x2048_o0_1920_S256x128,
    plane_apply B 14 _ slices_S256x2048_o0_1792_S256x128,
    plane_apply B 13 _ slices_S256x2048_o0_1664_S256x128,
    plane_apply B 12 _ slices_S256x2048_o0_1536_S256x128,
    plane_apply B 11 _ slices_S256x2048_o0_1408_S256x128,
    plane_apply B 10 _ slices_S256x2048_o0_1280_S256x128,
    plane_apply B 9 _ slices_S256x2048_o0_1152_S256x128,
    plane_apply B 8 _ slices_S256x2048_o0_1024_S256x128,
    plane_apply B 7 _ slices_S256x2048_o0_896_S256x128,
    plane_apply B 6 _ slices_S256x2048_o0_768_S256x128,
    plane_apply B 5 _ slices_S256x2048_o0_640_S256x128,
    plane_apply B 4 _ slices_S256x2048_o0_512_S256x128,
    plane_apply B 3 _ slices_S256x2048_o0_384_S256x128,
    plane_apply B 2 _ slices_S256x2048_o0_256_S256x128,
    plane_apply B 1 _ slices_S256x2048_o0_128_S256x128,
    plane_apply B 0 _ slices_S256x2048_o0_0_S256x128,
    fun q hq => absurd hq List.not_mem_nil⟩

/-- The norms by token and column, as rows of 128. -/
def normsOf : Vec Ideal S2048x128 .f32 := fun y =>
  normed (weights B) (row B ⟨(y 0).val / 8, by have : (y 0).val < 2048 := (y 0).isLt; omega⟩)
    ⟨(y 0).val % 8 * 128 + (y 1).val, by have : (y 1).val < 128 := (y 1).isLt; omega⟩

/-- Column block `c` of the norms, at every eighth row. -/
theorem eighth_apply (c : Nat) (hc : c < 8) (h : S256x1024.Slices ![0, 128 * c] S256x128) (x : S256x128.Idx) :
    extractStridedSlice S256x128 ![0, 128 * c] B.normed h x = normsOf B ((eighth c hc).emb x) := by
  obtain ⟨r, d, rfl⟩ : ∃ (r : Fin 256) (d : Fin 128), x = ix2 r d := ⟨x 0, x 1, eq_ix2 x⟩
  have e0 : ((eighth c hc).emb (ix2 r d) 0).val = c + 8 * r.val := rfl
  have e1 : ((eighth c hc).emb (ix2 r d) 1).val = 0 + 1 * d.val := rfl
  rw [extractStridedSlice_apply ![0, 128 * c] B.normed h (ix2 r d) (ix2 r ⟨128 * c + d.val, by omega⟩) (fun a => by
    match a with
    | ⟨0, _⟩ => show r.val = 0 + r.val; omega
    | ⟨1, _⟩ => rfl), normed_apply]
  unfold normsOf
  congr 1
  · congr 1
    apply Fin.ext
    dsimp only
    rw [e0]
    omega
  · apply Fin.ext
    dsimp only
    rw [e0, e1]
    omega

/-- The buffer of the norms holds the tokens' norms. -/
theorem outN_eq : B.outN = normsOf B := by
  funext y
  refine View.canon_apply_of_pieces (normsOf B) _ ?_ y (norms_cover ![_, _, _, _, _, _, _, _] y)
  simp only [List.forall_mem_cons]
  exact ⟨
    eighth_apply B 7 _ slices_S256x1024_o0_896_S256x128,
    eighth_apply B 6 _ slices_S256x1024_o0_768_S256x128,
    eighth_apply B 5 _ slices_S256x1024_o0_640_S256x128,
    eighth_apply B 4 _ slices_S256x1024_o0_512_S256x128,
    eighth_apply B 3 _ slices_S256x1024_o0_384_S256x128,
    eighth_apply B 2 _ slices_S256x1024_o0_256_S256x128,
    eighth_apply B 1 _ slices_S256x1024_o0_128_S256x128,
    eighth_apply B 0 _ slices_S256x1024_o0_0_S256x128,
    fun q hq => absurd hq List.not_mem_nil⟩

/-- The buffer of the mixed rows holds the tokens' mixed rows. -/
theorem outH_apply (j : Fin 1024) : (B.outH (ix2 r j) : EReal) = mixed (weights B) (row B r) j := by
  unfold Blocks.outH
  rw [View.canon_unit_zero off_zero]
  exact rows_apply B r j

end Cert.MixIdeal.Value

end
-- ==== Proof.MixHost.lean ====
module

public import proofs.«01_k».proof.Proof.MixIdealBody
public import proofs.«01_k».proof.Proof.MixValue

/-! What the mixing's call is handed: each block's rows are the arguments' tokens, and its weights are the arguments' weights. -/

@[expose] public section

set_option maxRecDepth 16384

noncomputable section

namespace Cert.MixIdeal.Host

open Cert.MixIdeal Cert.MixIdeal.Gen Idealize.ShloMosaic Idealize.ShloMosaic.TcCoe Idealize.SL.Sem
open Cert.MixSpec

variable (m : (ℓ : Loc nD τ sig) → Buf (Elt Ideal) ℓ) (c : Dev nD)

/-- The fifteen arguments. -/
def args : Args where
  R := m ((c : Thread nD τ).loc main_arg0)
  O1 := m ((c : Thread nD τ).loc main_arg1)
  O2 := m ((c : Thread nD τ).loc main_arg2)
  O3 := m ((c : Thread nD τ).loc main_arg3)
  L1 := m ((c : Thread nD τ).loc main_arg4)
  L2 := m ((c : Thread nD τ).loc main_arg5)
  L3 := m ((c : Thread nD τ).loc main_arg6)
  M := m ((c : Thread nD τ).loc main_arg7)
  X := m ((c : Thread nD τ).loc main_arg8)
  WR := m ((c : Thread nD τ).loc main_arg9)
  WA := m ((c : Thread nD τ).loc main_arg10)
  WO := m ((c : Thread nD τ).loc main_arg11)
  G := m ((c : Thread nD τ).loc main_arg12)
  WQ := m ((c : Thread nD τ).loc main_arg13)
  SK := m ((c : Thread nD τ).loc main_arg14)

/-! ## The weights the call is handed -/

/-- The retention's output projection, its leading axis dropped; below the same of the other weights. -/
theorem wro_apply (k j : Fin 1024) : (V m c main_v4 (ix2 k j) : EReal) = (args m c).WR (ix3 0 k j) := by
  change shapeCast S1024x1024 (args m c).WR shapeCasts_S1x1024x1024_S1024x1024 (ix2 k j) = _
  pointwise
theorem wao_apply (k : Fin 512) (j : Fin 1024) : (V m c main_v6 (ix2 k j) : EReal) = (args m c).WA (ix3 0 k j) := by
  change shapeCast S512x1024 (args m c).WA shapeCasts_S1x512x1024_S512x1024 (ix2 k j) = _
  pointwise
theorem wo_apply (k j : Fin 1024) : (V m c main_v8 (ix2 k j) : EReal) = (args m c).WO (ix3 0 k j) := by
  change shapeCast S1024x1024 (args m c).WO shapeCasts_S1x1024x1024_S1024x1024 (ix2 k j) = _
  pointwise
theorem gain_apply (j : Fin 1024) : (V m c main_v10 (ix2 0 j) : EReal) = (args m c).G (ix2 0 j) := by
  change shapeCast S1x1024 (shapeCast S1024 (args m c).G shapeCasts_S1x1024_S1024) shapeCasts_S1024_S1x1024 (ix2 0 j) = _
  pointwise
theorem wq_apply (k : Fin 1024) (j : Fin 2048) : (V m c main_v12 (ix2 k j) : EReal) = (args m c).WQ (ix3 0 k j) := by
  change shapeCast S1024x2048 (args m c).WQ shapeCasts_S1x1024x2048_S1024x2048 (ix2 k j) = _
  pointwise

/-- The sub-keys: head and half are one axis of sixteen. -/
theorem keys_apply (p : Fin 16) (n d : Fin 128) :
    (V m c main_v2 (ix3 p n d) : EReal) = (args m c).SK (ix5 0 ⟨p.val / 2, by omega⟩ ⟨p.val % 2, by omega⟩ n d) := by
  change shapeCast S16x128x128 (shapeCast S8x2x128x128 (args m c).SK shapeCasts_S1x8x2x128x128_S8x2x128x128)
    shapeCasts_S8x2x128x128_S16x128x128 (ix3 p n d) = _
  pointwise

/-- Where the input blocks of grid point `t` stand: 256 tokens from token `256 t`; the gates' sections; the whole weights. -/
theorem idx_in : ∀ t : Fin cfg0.N,
    (win0_0.index t 0 = t.val ∧ win0_0.index t 1 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = t.val ∧ win0_7.index t 1 = 3)
    ∧ (win0_8.index t 0 = t.val ∧ win0_8.index t 1 = 4)
    ∧ (win0_9.index t 0 = t.val ∧ win0_9.index t 1 = 0) := by
  decide +kernel

/-- The weights' blocks are the whole weights at every grid point. -/
theorem idx_weights : ∀ t : Fin cfg0.N,
    (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0 ∧ win0_15.index t 2 = 0) := by
  decide +kernel

/-- The token of row `r` of grid point `t`'s block. -/
def tokenAt (t : Fin cfg0.N) (r : Fin 256) : Fin 32768 := ⟨t.val * 256 + r.val, by have : t.val < 128 := t.isLt; omega⟩

set_option maxHeartbeats 1600000 in
/-- A block's row is the arguments' token. -/
theorem row_eq (t : Fin cfg0.N) (r : Fin 256) : Value.row (blocks m c t) r = (args m c).token (tokenAt t r) := by
  obtain ⟨e0, e1, e2, e3, e4, e5, e6, e7, e8, e9⟩ := idx_in t
  obtain ⟨a0, a1, a2, a3, a4, a5, a6, a7, a8, -⟩ := V_arg m c
  refine Row.ext ?_ ?_ ?_ ?_ ?_ ?_ ?_ ?_ ?_ ?_
  · funext k
    change (iblk m c 0 t (ix2 r k) : EReal) = m ((c : Thread nD τ).loc main_arg0) (ix2 (tokenAt t r) k)
    refine Eq.trans ?_ (congrFun a0 _)
    blk_ext [iblk, e0, tokenAt]
  · funext h d
    change (iblk m c 1 t (ix3 h r d) : EReal) = m ((c : Thread nD τ).loc main_arg1) (ix3 h (tokenAt t r) d)
    refine Eq.trans ?_ (congrFun a1 _)
    blk_ext [iblk, e1, tokenAt]
  · funext h d
    change (iblk m c 2 t (ix3 h r d) : EReal) = m ((c : Thread nD τ).loc main_arg2) (ix3 h (tokenAt t r) d)
    refine Eq.trans ?_ (congrFun a2 _)
    blk_ext [iblk, e2, tokenAt]
  · funext h d
    change (iblk m c 3 t (ix3 h r d) : EReal) = m ((c : Thread nD τ).loc main_arg3) (ix3 h (tokenAt t r) d)
    refine Eq.trans ?_ (congrFun a3 _)
    blk_ext [iblk, e3, tokenAt]
  · funext h d
    change (iblk m c 4 t (ix3 h r d) : EReal) = m ((c : Thread nD τ).loc main_arg4) (ix3 h (tokenAt t r) d)
    refine Eq.trans ?_ (congrFun a4 _)
    blk_ext [iblk, e4, tokenAt]
  · funext h d
    change (iblk m c 5 t (ix3 h r d) : EReal) = m ((c : Thread nD τ).loc main_arg5) (ix3 h (tokenAt t r) d)
    refine Eq.trans ?_ (congrFun a5 _)
    blk_ext [iblk, e5, tokenAt]
  · funext h d
    change (iblk m c 6 t (ix3 h r d) : EReal) = m ((c : Thread nD τ).loc main_arg6) (ix3 h (tokenAt t r) d)
    refine Eq.trans ?_ (congrFun a6 _)
    blk_ext [iblk, e6, tokenAt]
  · funext j
    change (iblk m c 7 t (ix2 r j) : EReal) = m ((c : Thread nD τ).loc main_arg7) (ix2 (tokenAt t r) (gateR j))
    refine Eq.trans ?_ (congrFun a7 _)
    blk_ext [iblk, e7, tokenAt, gateR]
  · funext j
    change (iblk m c 8 t (ix2 r j) : EReal) = m ((c : Thread nD τ).loc main_arg7) (ix2 (tokenAt t r) (gateA j))
    refine Eq.trans ?_ (congrFun a7 _)
    blk_ext [iblk, e8, tokenAt, gateA]
  · funext j
    change (iblk m c 9 t (ix2 r j) : EReal) = m ((c : Thread nD τ).loc main_arg8) (ix2 (tokenAt t r) j)
    refine Eq.trans ?_ (congrFun a8 _)
    blk_ext [iblk, e9, tokenAt]

set_option maxHeartbeats 1600000 in
/-- A block's weights are the arguments' weights. -/
theorem weights_eq (t : Fin cfg0.N) : Value.weights (blocks m c t) = (args m c).weights := by
  obtain ⟨e10, e11, e12, e13, e14, e15⟩ := idx_weights t
  refine Weights.ext ?_ ?_ ?_ ?_ ?_ ?_
  · funext k j
    change (iblk m c 10 t (ix2 k j) : EReal) = (args m c).WR (ix3 0 k j)
    refine Eq.trans ?_ (wro_apply m c k j)
    blk_ext [iblk, e10]
  · funext k j
    change (iblk m c 11 t (ix2 k j) : EReal) = (args m c).WA (ix3 0 k j)
    refine Eq.trans ?_ (wao_apply m c k j)
    blk_ext [iblk, e11]
  · funext k j
    change (iblk m c 12 t (ix2 k j) : EReal) = (args m c).WO (ix3 0 k j)
    refine Eq.trans ?_ (wo_apply m c k j)
    blk_ext [iblk, e12]
  · funext j
    change (iblk m c 13 t (ix2 0 j) : EReal) = (args m c).G (ix2 0 j)
    refine Eq.trans ?_ (gain_apply m c j)
    blk_ext [iblk, e13]
  · funext k j
    change (iblk m c 14 t (ix2 k j) : EReal) = (args m c).WQ (ix3 0 k j)
    refine Eq.trans ?_ (wq_apply m c k j)
    blk_ext [iblk, e14]
  · funext p n d
    change (iblk m c 15 t (ix3 p n d) : EReal) = (args m c).SK (ix5 0 ⟨p.val / 2, by omega⟩ ⟨p.val % 2, by omega⟩ n d)
    refine Eq.trans ?_ (keys_apply m c p n d)
    blk_ext [iblk, e15]

end Cert.MixIdeal.Host

end
-- ==== Proof.MixArray.lean ====
module

public import proofs.«01_k».proof.Proof.MixHost

/-! The mixing's three result arrays after the run, each as one function of the arguments. -/

@[expose] public section

set_option maxRecDepth 16384

noncomputable section

namespace Cert.MixIdeal.Arrays

open Cert.MixIdeal Cert.MixIdeal.Gen Idealize.ShloMosaic Idealize.ShloMosaic.TcCoe Idealize.SL.Sem
open Cert.MixSpec Cert.MixIdeal.Host

variable (m : (ℓ : Loc nD τ sig) → Buf (Elt Ideal) ℓ) (c : Dev nD)

/-- Where the result blocks of grid point `t` stand: 256 mixed rows, 2048 rows of norms, 256 columns of scores. -/
theorem idx_out : ∀ t : Fin cfg0.N,
    (win0_16.index t 0 = t.val ∧ win0_16.index t 1 = 0)
    ∧ (win0_17.index t 0 = t.val ∧ win0_17.index t 1 = 0)
    ∧ (win0_18.index t 0 = 0 ∧ win0_18.index t 1 = 0 ∧ win0_18.index t 2 = t.val) := by
  decide +kernel

/-- The three arrays at an index whose coordinates are known. -/
theorem mixedArr_at (A : Args) (i : (⟨2, ![32768, 1024]⟩ : Shape).Idx) (a : Fin 32768) (b : Fin 1024) (ha : (i 0).val = a.val) (hb : (i 1).val = b.val) :
    mixed A.weights (A.token a) b = mixedArr A i := by
  obtain rfl : a = i 0 := Fin.ext ha.symm
  obtain rfl : b = i 1 := Fin.ext hb.symm
  rfl
theorem normsArr_at (A : Args) (i : (⟨2, ![262144, 128]⟩ : Shape).Idx) (a : Fin 32768) (b : Fin 1024) (ha : (i 0).val / 8 = a.val)
    (hb : (i 0).val % 8 * 128 + (i 1).val = b.val) : normed A.weights (A.token a) b = normsArr A i :=
  congrArg₂ (fun x y => normed A.weights (A.token x) y) (Fin.ext ha.symm) (Fin.ext hb.symm)
theorem scoresArr_at (A : Args) (i : (⟨3, ![16, 128, 32768]⟩ : Shape).Idx) (a : Fin 32768) (p : Fin 16) (n : Fin 128) (ha : (i 2).val = a.val)
    (hp : (i 0).val = p.val) (hn : (i 1).val = n.val) : score A.weights (A.token a) p n = scoresArr A i := by
  obtain rfl : a = i 2 := Fin.ext ha.symm
  obtain rfl : p = i 0 := Fin.ext hp.symm
  obtain rfl : n = i 1 := Fin.ext hn.symm
  rfl

/-- The mixed rows after the run. -/
theorem array16 : (dats m 0 c).arrAt 16 cfg0.N = mixedArr (args m c) := by
  refine (dats m 0 c).arrAt_eq_of_covers 16 _ (by decide +kernel) fun t hf y => ?_
  obtain ⟨⟨e0, e1⟩, -, -⟩ := idx_out t
  blk_simp
  rw [after_h]
  obtain ⟨r, j, rfl⟩ : ∃ (r : Fin 256) (j : Fin 1024), y = ix2 r j := ⟨y 0, y 1, eq_ix2 y⟩
  refine (Value.outH_apply (blocks m c t) r j).trans ?_
  rw [weights_eq, row_eq]
  refine mixedArr_at _ _ _ _ ?_ ?_
  · blk_simp
    simp only [tokenAt, e0]
  · blk_simp
    simp only [e1, Nat.zero_mul, Nat.zero_add]

/-- The norms after the run. -/
theorem array17 : (dats m 0 c).arrAt 17 cfg0.N = normsArr (args m c) := by
  refine (dats m 0 c).arrAt_eq_of_covers 17 _ (by decide +kernel) fun t hf y => ?_
  obtain ⟨-, ⟨e0, e1⟩, -⟩ := idx_out t
  blk_simp
  rw [after_n, Value.outN_eq]
  obtain ⟨r, j, rfl⟩ : ∃ (r : Fin 2048) (j : Fin 128), y = ix2 r j := ⟨y 0, y 1, eq_ix2 y⟩
  have hr := r.isLt
  change normed (Value.weights (blocks m c t)) (Value.row (blocks m c t) ⟨r.val / 8, by omega⟩) ⟨r.val % 8 * 128 + j.val, by omega⟩ = _
  rw [weights_eq, row_eq]
  refine normsArr_at _ _ _ _ ?_ ?_
  · blk_simp
    simp only [tokenAt, e0]
    omega
  · blk_simp
    simp only [e0, e1, Nat.zero_mul, Nat.zero_add]
    omega

/-- The scores after the run. -/
theorem array18 : (dats m 0 c).arrAt 18 cfg0.N = scoresArr (args m c) := by
  refine (dats m 0 c).arrAt_eq_of_covers 18 _ (by decide +kernel) fun t hf y => ?_
  obtain ⟨-, -, ⟨e0, e1, e2⟩⟩ := idx_out t
  blk_simp
  rw [after_s, Value.outS_eq]
  obtain ⟨p, n, r, rfl⟩ : ∃ (p : Fin 16) (n : Fin 128) (r : Fin 256), y = ix3 p n r := ⟨y 0, y 1, y 2, eq_ix3 y⟩
  change score (Value.weights (blocks m c t)) (Value.row (blocks m c t) r) p n = _
  rw [weights_eq, row_eq]
  refine scoresArr_at _ _ _ _ _ ?_ ?_ ?_
  · blk_simp
    simp only [tokenAt, e2]
  · blk_simp
    simp only [e0, Nat.zero_mul, Nat.zero_add]
  · blk_simp
    simp only [e1, Nat.zero_mul, Nat.zero_add]

end Cert.MixIdeal.Arrays

end
-- ==== Proof.MixRef.lean ====
module

public import proofs.«01_k».proof.Proof.Gen.MixRefIdeal.Read
public import proofs.«01_k».proof.Proof.MixSpec
public import Idealize.ShloMosaic.Lib.Pipeline.ValueKit
public import Idealize.ShloMosaic.Lib.Pointwise

/-! What the reference of the mixing computes, entry by entry, and that on real logarithms it is the mathematics of the mixing. -/

@[expose] public section

set_option maxRecDepth 16384

noncomputable section

namespace Cert.MixRefIdeal.Entry

open Cert.MixRefIdeal Cert.MixRefIdeal.Gen Cert.MixRefIdeal.Read Idealize.ShloMosaic Idealize.ShloMosaic.TcCoe Idealize.SL.Sem Cert.MixSpec

variable (A : Args)

/-- The three logarithms one above the other. -/
theorem logs_apply (h : Fin 4) (t : Fin 32768) (d : Fin 128) :
    (val_main_v7 (F := Ideal) A.L1 A.L2 A.L3 (ix4 0 h t d) : EReal) = (A.token t).l1 h d
    ∧ (val_main_v7 (F := Ideal) A.L1 A.L2 A.L3 (ix4 1 h t d) : EReal) = (A.token t).l2 h d
    ∧ (val_main_v7 (F := Ideal) A.L1 A.L2 A.L3 (ix4 2 h t d) : EReal) = (A.token t).l3 h d := by
  refine ⟨?_, ?_, ?_⟩ <;> pointwise [val_main_v7, val_main_v4, val_main_v5, val_main_v6, Args.token]

/-- The three values one above the other. -/
theorem values_apply (h : Fin 4) (t : Fin 32768) (d : Fin 128) :
    (val_main_v20 (F := Ideal) A.O1 A.O2 A.O3 (ix4 0 h t d) : EReal) = (A.token t).o1 h d
    ∧ (val_main_v20 (F := Ideal) A.O1 A.O2 A.O3 (ix4 1 h t d) : EReal) = (A.token t).o2 h d
    ∧ (val_main_v20 (F := Ideal) A.O1 A.O2 A.O3 (ix4 2 h t d) : EReal) = (A.token t).o3 h d := by
  refine ⟨?_, ?_, ?_⟩ <;> pointwise [val_main_v20, val_main_v17, val_main_v18, val_main_v19, Args.token]

/-- The largest of three. -/
theorem fold_three (f : Fin 3 → EReal) : Finset.fold max ⊥ f Finset.univ = max (max (f 0) (f 1)) (f 2) := by
  rw [show (Finset.univ : Finset (Fin 3)) = {0, 1, 2} from rfl, Finset.fold_insert (by decide), Finset.fold_insert (by decide),
    Finset.fold_singleton, max_bot_right, max_assoc]

/-- The largest logarithm. -/
theorem big_apply (h : Fin 4) (t : Fin 32768) (d : Fin 128) :
    (val_main_v8 (F := Ideal) A.L1 A.L2 A.L3 (ix3 h t d) : EReal) = big (A.token t) h d := by
  have e : (Ideal.ofBits FTy.f32 0xFF800000#32 : EReal) = ⊥ := by simp [Ideal.ofBits, Ideal.ieee]
  have hf : (val_main_v8 (F := Ideal) A.L1 A.L2 A.L3 (ix3 h t d) : EReal)
      = Finset.fold max (Ideal.ofBits FTy.f32 0xFF800000#32) (fun g : Fin 3 => (val_main_v7 (F := Ideal) A.L1 A.L2 A.L3 (ix4 g h t d) : EReal)) Finset.univ := by
    unfold val_main_v8
    refine (Host.reduce_eq_fold_single (FloatOps.maximumf (F := Ideal) (φ := .f32)) (val_main_v7 (F := Ideal) A.L1 A.L2 A.L3) (val_main_cst (F := Ideal))
      reducesTo_S3x4x32768x128_S4x32768x128_d0 (by decide) h_S_ (ix3 h t d)).trans ?_
    refine congrArg (fun f => Finset.fold max (Ideal.ofBits FTy.f32 0xFF800000#32) f Finset.univ) (funext fun g => ?_)
    exact congrArg (val_main_v7 (F := Ideal) A.L1 A.L2 A.L3) (funext fun a => Fin.ext (match a with
      | ⟨0, _⟩ => rfl | ⟨1, _⟩ => rfl | ⟨2, _⟩ => rfl | ⟨3, _⟩ => rfl))
  rw [hf, e, fold_three, (logs_apply A h t d).1, (logs_apply A h t d).2.1, (logs_apply A h t d).2.2]
  rfl

/-- The exponential of a group's logarithm less the largest. -/
theorem exp_apply (g : Fin 3) (h : Fin 4) (t : Fin 32768) (d : Fin 128) :
    (val_main_v12 (F := Ideal) A.L1 A.L2 A.L3 (ix4 g h t d) : EReal)
      = Ideal.exp ((val_main_v7 (F := Ideal) A.L1 A.L2 A.L3 (ix4 g h t d) : EReal) - big (A.token t) h d) := by
  rw [← big_apply]
  pointwise [val_main_v12, val_main_v11, val_main_v10, val_main_v9]

/-- The three weights. -/
theorem weights_apply (h : Fin 4) (t : Fin 32768) (d : Fin 128) :
    (val_main_v12 (F := Ideal) A.L1 A.L2 A.L3 (ix4 0 h t d) : EReal) = e1 (A.token t) h d
    ∧ (val_main_v12 (F := Ideal) A.L1 A.L2 A.L3 (ix4 1 h t d) : EReal) = e2 (A.token t) h d
    ∧ (val_main_v12 (F := Ideal) A.L1 A.L2 A.L3 (ix4 2 h t d) : EReal) = e3 (A.token t) h d := by
  obtain ⟨l1, l2, l3⟩ := logs_apply A h t d
  refine ⟨?_, ?_, ?_⟩
  · rw [exp_apply, l1]; rfl
  · rw [exp_apply, l2]; rfl
  · rw [exp_apply, l3]; rfl

/-- The sum of the weights. -/
theorem den_apply (h : Fin 4) (t : Fin 32768) (d : Fin 128) :
    (val_main_v13 (F := Ideal) A.L1 A.L2 A.L3 (ix3 h t d) : EReal)
      = e1 (A.token t) h d + e2 (A.token t) h d + e3 (A.token t) h d := by
  obtain ⟨w1, w2, w3⟩ := weights_apply A h t d
  have hi : ∀ g : Fin 3, idx_main_v13 (ix3 h t d) g = ix4 g h t d := fun g =>
    funext fun a => match a with | ⟨0, _⟩ => rfl | ⟨1, _⟩ => rfl | ⟨2, _⟩ => rfl | ⟨3, _⟩ => rfl
  have h0 : (val_main_cst_0 (F := Ideal) (Shape.Idx.first h_S_) : EReal) = 0 := by
    rw [val_main_cst_0_apply]; simp [Ideal.ofBits, Ideal.ieee]
  refine (val_main_v13_apply A.L1 A.L2 A.L3 _).trans ?_
  rw [Fin.sum_univ_three, hi, hi, hi, w1, w2, w3, h0, zero_add]

/-- A group's share times its value. -/
theorem share_apply (g : Fin 3) (h : Fin 4) (t : Fin 32768) (d : Fin 128) :
    (val_main_v21 (F := Ideal) A.O1 A.O2 A.O3 A.L1 A.L2 A.L3 (ix4 g h t d) : EReal)
      = Ideal.div (val_main_v12 (F := Ideal) A.L1 A.L2 A.L3 (ix4 g h t d)) (val_main_v13 (F := Ideal) A.L1 A.L2 A.L3 (ix3 h t d))
        * (val_main_v20 (F := Ideal) A.O1 A.O2 A.O3 (ix4 g h t d) : EReal) := by
  pointwise [val_main_v21, val_main_v16, val_main_v15, val_main_v14]

/-- The reference's mean: each weight divided first. -/
theorem mean_apply (h : Fin 4) (t : Fin 32768) (d : Fin 128) :
    (val_main_v22 (F := Ideal) A.O1 A.O2 A.O3 A.L1 A.L2 A.L3 (ix3 h t d) : EReal) = meanOfShares (A.token t) h d := by
  obtain ⟨w1, w2, w3⟩ := weights_apply A h t d
  obtain ⟨o1, o2, o3⟩ := values_apply A h t d
  have hi : ∀ g : Fin 3, idx_main_v22 (ix3 h t d) g = ix4 g h t d := fun g =>
    funext fun a => match a with | ⟨0, _⟩ => rfl | ⟨1, _⟩ => rfl | ⟨2, _⟩ => rfl | ⟨3, _⟩ => rfl
  have h0 : (val_main_cst_1 (F := Ideal) (Shape.Idx.first h_S_) : EReal) = 0 := by
    rw [val_main_cst_1_apply]; simp [Ideal.ofBits, Ideal.ieee]
  refine (val_main_v22_apply A.O1 A.O2 A.O3 A.L1 A.L2 A.L3 _).trans ?_
  rw [Fin.sum_univ_three, hi, hi, hi, share_apply, share_apply, share_apply, den_apply, w1, w2, w3, o1, o2, o3, h0, zero_add]
  rfl

/-- The mean by token and column. -/
theorem means_apply (t : Fin 32768) (k : Fin 512) :
    (val_main_v24 (F := Ideal) A.O1 A.O2 A.O3 A.L1 A.L2 A.L3 (ix2 t k) : EReal) = meanOfShares (A.token t) (headOf k) (partOf k) := by
  refine Eq.trans ?_ (mean_apply A (headOf k) t (partOf k))
  refine (val_main_v24_apply (F := Ideal) A.O1 A.O2 A.O3 A.L1 A.L2 A.L3 _).trans ?_
  refine (val_main_v23_apply (F := Ideal) A.O1 A.O2 A.O3 A.L1 A.L2 A.L3 _).trans ?_
  refine congrArg (val_main_v22 (F := Ideal) A.O1 A.O2 A.O3 A.L1 A.L2 A.L3) (funext fun a => Fin.ext ?_)
  have hk := k.isLt
  match a with
  | ⟨0, _⟩ => show (t.val * 512 + k.val) / 128 % 4 = k.val / 128; omega
  | ⟨1, _⟩ => show (t.val * 512 + k.val) / 512 = t.val; omega
  | ⟨2, _⟩ => show (t.val * 512 + k.val) % 128 = k.val % 128; omega

/-- The retention's gate. -/
theorem gateR_apply (t : Fin 32768) (j : Fin 1024) :
    (val_main_v35 (F := Ideal) A.M (ix2 t j) : EReal) = Ideal.logistic ((A.token t).gr j) := by
  pointwise [val_main_v35, val_main_v34, val_main_v33, val_main_v32, val_main_v31, val_main_v30, val_main_v1, val_main_v0,
    val_main_cst_2, val_main_cst_3]
  rfl

/-- The attention's gate. -/
theorem gateA_apply (t : Fin 32768) (j : Fin 1024) :
    (val_main_v42 (F := Ideal) A.M (ix2 t j) : EReal) = Ideal.logistic ((A.token t).ga j) := by
  pointwise [val_main_v42, val_main_v41, val_main_v40, val_main_v39, val_main_v38, val_main_v37, val_main_v3, val_main_v2,
    val_main_cst_4, val_main_cst_5]
  rfl

/-- The retention's projection. -/
theorem retention_apply (t : Fin 32768) (j : Fin 1024) :
    (val_main_v27 (F := Ideal) A.R A.WR (ix2 t j) : EReal) = ∑ k : Fin 1024, (A.token t).ret k * A.weights.wro k j := by
  refine (val_main_v27_apply A.R A.WR _).trans (Finset.sum_congr rfl fun k _ => ?_)
  have hl : lidx_main_v27 (ix2 t j) k = ix2 t k := funext fun a => match a with | ⟨0, _⟩ => rfl | ⟨1, _⟩ => rfl
  have hr : ridx_main_v27 (ix2 t j) k = ix2 k j := funext fun a => match a with | ⟨0, _⟩ => rfl | ⟨1, _⟩ => rfl
  rw [hl, hr]
  pointwise [val_main_v25, val_main_v26, Args.token, Args.weights]

/-- The attention's weight without its leading axis; below the same of the other weights. -/
theorem wao_apply (k : Fin 512) (j : Fin 1024) : (val_main_v28 (F := Ideal) A.WA (ix2 k j) : EReal) = A.weights.wao k j := by
  pointwise [val_main_v28, Args.weights]
theorem wo_apply (k j : Fin 1024) : (val_main_v45 (F := Ideal) A.WO (ix2 k j) : EReal) = A.weights.wo k j := by
  pointwise [val_main_v45, Args.weights]
theorem wq_apply (k : Fin 1024) (j : Fin 2048) : (val_main_v62 (F := Ideal) A.WQ (ix2 k j) : EReal) = A.weights.wq k j := by
  pointwise [val_main_v62, Args.weights]

variable (hm : ∀ t h d, meanOfShares (A.token t) h d = mean (A.token t) h d)
include hm

/-- The attention's projection. -/
theorem attention_apply (t : Fin 32768) (j : Fin 1024) :
    (val_main_v29 (F := Ideal) A.O1 A.O2 A.O3 A.L1 A.L2 A.L3 A.WA (ix2 t j) : EReal)
      = ∑ k : Fin 512, mean (A.token t) (headOf k) (partOf k) * A.weights.wao k j := by
  refine (val_main_v29_apply A.O1 A.O2 A.O3 A.L1 A.L2 A.L3 A.WA _).trans (Finset.sum_congr rfl fun k _ => ?_)
  have hl : lidx_main_v29 (ix2 t j) k = ix2 t k := funext fun a => match a with | ⟨0, _⟩ => rfl | ⟨1, _⟩ => rfl
  have hr : ridx_main_v29 (ix2 t j) k = ix2 k j := funext fun a => match a with | ⟨0, _⟩ => rfl | ⟨1, _⟩ => rfl
  rw [hl, hr, means_apply, hm, wao_apply]

/-- The gated sum. -/
theorem merged_apply (t : Fin 32768) (j : Fin 1024) :
    (val_main_v44 (F := Ideal) A.R A.O1 A.O2 A.O3 A.L1 A.L2 A.L3 A.M A.WR A.WA (ix2 t j) : EReal) = merged A.weights (A.token t) j := by
  change (val_main_v35 (F := Ideal) A.M (ix2 t j) : EReal) * (val_main_v27 (F := Ideal) A.R A.WR (ix2 t j) : EReal)
    + (val_main_v42 (F := Ideal) A.M (ix2 t j) : EReal) * (val_main_v29 (F := Ideal) A.O1 A.O2 A.O3 A.L1 A.L2 A.L3 A.WA (ix2 t j) : EReal) = _
  rw [gateR_apply, gateA_apply, retention_apply, attention_apply A hm]
  rfl

/-- The mixed rows. -/
theorem mixed_apply (t : Fin 32768) (j : Fin 1024) :
    (val_main_v47 (F := Ideal) A.R A.O1 A.O2 A.O3 A.L1 A.L2 A.L3 A.M A.X A.WR A.WA A.WO (ix2 t j) : EReal) = mixed A.weights (A.token t) j := by
  change (A.X (ix2 t j) : EReal) + (val_main_v46 (F := Ideal) A.R A.O1 A.O2 A.O3 A.L1 A.L2 A.L3 A.M A.WR A.WA A.WO (ix2 t j) : EReal) = _
  unfold mixed
  refine congrArg (A.X (ix2 t j) + ·) ?_
  refine (val_main_v46_apply A.R A.O1 A.O2 A.O3 A.L1 A.L2 A.L3 A.M A.WR A.WA A.WO _).trans (Finset.sum_congr rfl fun k _ => ?_)
  have hl : lidx_main_v46 (ix2 t j) k = ix2 t k := funext fun a => match a with | ⟨0, _⟩ => rfl | ⟨1, _⟩ => rfl
  have hr : ridx_main_v46 (ix2 t j) k = ix2 k j := funext fun a => match a with | ⟨0, _⟩ => rfl | ⟨1, _⟩ => rfl
  rw [hl, hr, merged_apply A hm, wo_apply]

/-- The sum of squares. -/
theorem squares_apply (t : Fin 32768) :
    (val_main_v49 (F := Ideal) A.R A.O1 A.O2 A.O3 A.L1 A.L2 A.L3 A.M A.X A.WR A.WA A.WO (ix1 t) : EReal)
      = ∑ k : Fin 1024, mixed A.weights (A.token t) k * mixed A.weights (A.token t) k := by
  have h0 : (val_main_cst_6 (F := Ideal) (Shape.Idx.first h_S_) : EReal) = 0 := by
    rw [val_main_cst_6_apply]; simp [Ideal.ofBits, Ideal.ieee]
  refine (val_main_v49_apply A.R A.O1 A.O2 A.O3 A.L1 A.L2 A.L3 A.M A.X A.WR A.WA A.WO _).trans ?_
  rw [h0, zero_add]
  refine Finset.sum_congr rfl fun k _ => ?_
  have hi : idx_main_v49 (ix1 t) k = ix2 t k := funext fun a => match a with | ⟨0, _⟩ => rfl | ⟨1, _⟩ => rfl
  rw [hi, val_main_v48_apply, mixed_apply A hm]
  rfl

/-- The norms. -/
theorem normed_apply (t : Fin 32768) (j : Fin 1024) :
    (val_main_v61 (F := Ideal) A.R A.O1 A.O2 A.O3 A.L1 A.L2 A.L3 A.M A.X A.WR A.WA A.WO A.G (ix2 t j) : EReal)
      = normed A.weights (A.token t) j := by
  have hs := squares_apply A hm t
  have hx := mixed_apply A hm t j
  unfold normed
  rw [← hs, ← hx]
  pointwise [val_main_v61, val_main_v60, val_main_v59, val_main_v58, val_main_v57, val_main_v56, val_main_v55, val_main_v54, val_main_v53,
    val_main_v52, val_main_v51, val_main_v50, val_main_cst_7, val_main_cst_8, Args.weights]

/-- The queries. -/
theorem query_apply (t : Fin 32768) (j : Fin 2048) :
    (val_main_v63 (F := Ideal) A.R A.O1 A.O2 A.O3 A.L1 A.L2 A.L3 A.M A.X A.WR A.WA A.WO A.G A.WQ (ix2 t j) : EReal)
      = query A.weights (A.token t) j := by
  refine (val_main_v63_apply A.R A.O1 A.O2 A.O3 A.L1 A.L2 A.L3 A.M A.X A.WR A.WA A.WO A.G A.WQ _).trans (Finset.sum_congr rfl fun k _ => ?_)
  have hl : lidx_main_v63 (ix2 t j) k = ix2 t k := funext fun a => match a with | ⟨0, _⟩ => rfl | ⟨1, _⟩ => rfl
  have hr : ridx_main_v63 (ix2 t j) k = ix2 k j := funext fun a => match a with | ⟨0, _⟩ => rfl | ⟨1, _⟩ => rfl
  rw [hl, hr, normed_apply A hm, wq_apply]

/-- The scores, by head, half, sub-key and token. -/
theorem score_apply (p : Fin 16) (n : Fin 128) (t : Fin 32768) :
    (val_main_v66 (F := Ideal) A.R A.O1 A.O2 A.O3 A.L1 A.L2 A.L3 A.M A.X A.WR A.WA A.WO A.G A.WQ A.SK
        (ix4 ⟨p.val / 2, by omega⟩ ⟨p.val % 2, by omega⟩ n t) : EReal) = score A.weights (A.token t) p n := by
  refine (val_main_v66_apply A.R A.O1 A.O2 A.O3 A.L1 A.L2 A.L3 A.M A.X A.WR A.WA A.WO A.G A.WQ A.SK _).trans (Finset.sum_congr rfl fun c _ => ?_)
  have hp := p.isLt
  have hn := n.isLt
  have hc := c.isLt
  refine congrArg₂ (· * ·) ?_ (Eq.trans ?_ (query_apply A hm t (queryCol p c)))
  · refine (val_main_v65_apply (F := Ideal) A.SK _).trans (congrArg A.SK (funext fun a => Fin.ext ?_))
    match a with
    | ⟨0, _⟩ => rfl
    | ⟨1, _⟩ => show (((p.val / 2 * 2 + p.val % 2) * 128 + n.val) * 128 + c.val) / 32768 % 8 = p.val / 2; omega
    | ⟨2, _⟩ => show (((p.val / 2 * 2 + p.val % 2) * 128 + n.val) * 128 + c.val) / 16384 % 2 = p.val % 2; omega
    | ⟨3, _⟩ => show (((p.val / 2 * 2 + p.val % 2) * 128 + n.val) * 128 + c.val) / 128 % 128 = n.val; omega
    | ⟨4, _⟩ => show (((p.val / 2 * 2 + p.val % 2) * 128 + n.val) * 128 + c.val) % 128 = c.val; omega
  · refine (val_main_v64_apply (F := Ideal) A.R A.O1 A.O2 A.O3 A.L1 A.L2 A.L3 A.M A.X A.WR A.WA A.WO A.G A.WQ _).trans ?_
    refine congrArg (val_main_v63 (F := Ideal) A.R A.O1 A.O2 A.O3 A.L1 A.L2 A.L3 A.M A.X A.WR A.WA A.WO A.G A.WQ) (funext fun a => Fin.ext ?_)
    match a with
    | ⟨0, _⟩ => show (((t.val * 8 + p.val / 2) * 2 + p.val % 2) * 128 + c.val) / 2048 = t.val; omega
    | ⟨1, _⟩ => show (((t.val * 8 + p.val / 2) * 2 + p.val % 2) * 128 + c.val) % 2048 = 128 * p.val + c.val; omega

/-- The reference's first result. -/
theorem mixed_eq : (val_main_v47 (F := Ideal) A.R A.O1 A.O2 A.O3 A.L1 A.L2 A.L3 A.M A.X A.WR A.WA A.WO
    : (⟨2, ![32768, 1024]⟩ : Shape).Idx → EReal) = mixedArr A :=
  funext fun i => (congrArg _ (eq_ix2 i)).trans (mixed_apply A hm (i 0) (i 1))

/-- The reference's second result. -/
theorem norms_eq : (val_main_v67 (F := Ideal) A.R A.O1 A.O2 A.O3 A.L1 A.L2 A.L3 A.M A.X A.WR A.WA A.WO A.G
    : (⟨2, ![262144, 128]⟩ : Shape).Idx → EReal) = normsArr A := by
  funext i
  have h0 : (i 0).val < 262144 := (i 0).isLt
  have h1 : (i 1).val < 128 := (i 1).isLt
  refine (val_main_v67_apply (F := Ideal) A.R A.O1 A.O2 A.O3 A.L1 A.L2 A.L3 A.M A.X A.WR A.WA A.WO A.G i).trans ?_
  refine Eq.trans ?_ (normed_apply A hm ⟨(i 0).val / 8, by omega⟩ ⟨(i 0).val % 8 * 128 + (i 1).val, by omega⟩)
  refine congrArg (val_main_v61 (F := Ideal) A.R A.O1 A.O2 A.O3 A.L1 A.L2 A.L3 A.M A.X A.WR A.WA A.WO A.G) (funext fun a => Fin.ext ?_)
  match a with
  | ⟨0, _⟩ => show ((i 0).val * 128 + (i 1).val) / 1024 = (i 0).val / 8; omega
  | ⟨1, _⟩ => show ((i 0).val * 128 + (i 1).val) % 1024 = (i 0).val % 8 * 128 + (i 1).val; omega

/-- The reference's third result. -/
theorem scores_eq : (val_main_v68 (F := Ideal) A.R A.O1 A.O2 A.O3 A.L1 A.L2 A.L3 A.M A.X A.WR A.WA A.WO A.G A.WQ A.SK
    : (⟨3, ![16, 128, 32768]⟩ : Shape).Idx → EReal) = scoresArr A := by
  funext i
  have h0 : (i 0).val < 16 := (i 0).isLt
  have h1 : (i 1).val < 128 := (i 1).isLt
  have h2 : (i 2).val < 32768 := (i 2).isLt
  refine (val_main_v68_apply (F := Ideal) A.R A.O1 A.O2 A.O3 A.L1 A.L2 A.L3 A.M A.X A.WR A.WA A.WO A.G A.WQ A.SK i).trans ?_
  refine Eq.trans ?_ (score_apply A hm (i 0) (i 1) (i 2))
  refine congrArg (val_main_v66 (F := Ideal) A.R A.O1 A.O2 A.O3 A.L1 A.L2 A.L3 A.M A.X A.WR A.WA A.WO A.G A.WQ A.SK) (funext fun a => Fin.ext ?_)
  match a with
  | ⟨0, _⟩ => show (((i 0).val * 128 + (i 1).val) * 32768 + (i 2).val) / 8388608 = (i 0).val / 2; omega
  | ⟨1, _⟩ => show (((i 0).val * 128 + (i 1).val) * 32768 + (i 2).val) / 4194304 % 2 = (i 0).val % 2; omega
  | ⟨2, _⟩ => show (((i 0).val * 128 + (i 1).val) * 32768 + (i 2).val) / 32768 % 128 = (i 1).val; omega
  | ⟨3, _⟩ => show (((i 0).val * 128 + (i 1).val) * 32768 + (i 2).val) % 32768 = (i 2).val; omega

end Cert.MixRefIdeal.Entry

end
-- ==== Proof.MixEq.lean ====
module

public import proofs.«01_k».proof.Defs
public import proofs.«01_k».proof.Proof.MixArray
public import proofs.«01_k».proof.Proof.MixRef
public import proofs.«01_k».proof.Proof.AttEq
public import proofs.«01_k».proof.Proof.Gen.MixRefIdeal.Run
public import proofs.«01_k».proof.Proof.Gen.Pre_finite_sums
public import Idealize.ShloMosaic.Lib.Quiescent

/-! The mixing's equation: on finite logarithms the kernel's three arrays are the reference's. -/

@[expose] public section

set_option maxRecDepth 16384

noncomputable section

namespace Cert.MixEq

open Idealize.ShloMosaic Idealize.ShloMosaic.TcCoe Idealize.SL.Sem
open Cert.MixSpec Cert.MixIdeal.Host Cert.MixIdeal.Arrays
open Cert.AttSpec (IsReal)

/-- When the conjunction of two bits is set, both are. -/
theorem both_of_and (a b : BitVec 1) (h : a &&& b = 1#1) : a = 1#1 ∧ b = 1#1 := by
  revert a b
  decide

/-- What the precondition says: every entry of the three logarithms is a real number. -/
theorem finite_logs (A : Args)
    (h : Cert.Pre_finite_sums.fn (F := Ideal) A.R A.O1 A.O2 A.O3 A.L1 A.L2 A.L3 A.M A.X A.WR A.WA A.WO A.G A.WQ A.SK = fun _ => 1#1)
    (i : (⟨3, ![4, 32768, 128]⟩ : Shape).Idx) : IsReal (A.L1 i) ∧ IsReal (A.L2 i) ∧ IsReal (A.L3 i) := by
  obtain ⟨h12, h3⟩ := both_of_and _ _ (congrFun h i)
  obtain ⟨h1, h2⟩ := both_of_and _ _ h12
  exact ⟨Cert.AttEq.isReal_of_abs _ h1, Cert.AttEq.isReal_of_abs _ h2, Cert.AttEq.isReal_of_abs _ h3⟩

/-- On real logarithms the reference's mean is the kernel's. -/
theorem means_agree (A : Args) (hA : ∀ i, IsReal (A.L1 i) ∧ IsReal (A.L2 i) ∧ IsReal (A.L3 i)) (t : Fin 32768) (h : Fin 4) (d : Fin 128) :
    meanOfShares (A.token t) h d = mean (A.token t) h d := by
  obtain ⟨⟨r1, h1⟩, ⟨r2, h2⟩, ⟨r3, h3⟩⟩ := hA (ix3 h t d)
  exact meanOfShares_eq _ h d r1 r2 r3 h1 h2 h3

/-- The kernel's run leaves the specification's three arrays and keeps its arguments. -/
theorem kernel_run (m : (ℓ : Loc Cert.MixIdeal.nD Cert.MixIdeal.τ Cert.MixIdeal.sig) → Buf (Elt Ideal) ℓ) (ρ : Dev Cert.MixIdeal.nD → PrngReg) :
    θ_run (Cert.MixIdeal.defs (F := Ideal)) (onTc (τ := Cert.MixIdeal.τ) (Cert.MixIdeal.main (F := Ideal))) ⟨m, fun _ => 0, ρ⟩ fun r => ∀ c : Dev Cert.MixIdeal.nD,
      r.2.mem ((c.tc : Thread Cert.MixIdeal.nD Cert.MixIdeal.τ).loc Cert.MixIdeal.main_v13_0) = mixedArr (args m c)
      ∧ r.2.mem ((c.tc : Thread Cert.MixIdeal.nD Cert.MixIdeal.τ).loc Cert.MixIdeal.main_v13_1) = normsArr (args m c)
      ∧ r.2.mem ((c.tc : Thread Cert.MixIdeal.nD Cert.MixIdeal.τ).loc Cert.MixIdeal.main_v13_2) = scoresArr (args m c)
      ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14) :=
  (θ_run Cert.MixIdeal.defs _ _).mono (fun r h c =>
    ⟨((h.1 c).1 16).trans (array16 m c), ((h.1 c).1 17).trans (array17 m c), ((h.1 c).1 18).trans (array18 m c),
      Cert.MixIdeal.Gen.kept m r h.1 c⟩) (Cert.MixIdeal.Gen.run_main (F := Ideal) m ρ)

/-- The arguments of the reference's run. -/
def argsRef (m : (ℓ : Loc Cert.MixRefIdeal.nD Cert.MixRefIdeal.τ Cert.MixRefIdeal.sig) → Buf (Elt Ideal) ℓ) (c : Dev Cert.MixRefIdeal.nD) : Args where
  R := m ((c.tc : Thread Cert.MixRefIdeal.nD Cert.MixRefIdeal.τ).loc Cert.MixRefIdeal.main_arg0)
  O1 := m ((c.tc : Thread Cert.MixRefIdeal.nD Cert.MixRefIdeal.τ).loc Cert.MixRefIdeal.main_arg1)
  O2 := m ((c.tc : Thread Cert.MixRefIdeal.nD Cert.MixRefIdeal.τ).loc Cert.MixRefIdeal.main_arg2)
  O3 := m ((c.tc : Thread Cert.MixRefIdeal.nD Cert.MixRefIdeal.τ).loc Cert.MixRefIdeal.main_arg3)
  L1 := m ((c.tc : Thread Cert.MixRefIdeal.nD Cert.MixRefIdeal.τ).loc Cert.MixRefIdeal.main_arg4)
  L2 := m ((c.tc : Thread Cert.MixRefIdeal.nD Cert.MixRefIdeal.τ).loc Cert.MixRefIdeal.main_arg5)
  L3 := m ((c.tc : Thread Cert.MixRefIdeal.nD Cert.MixRefIdeal.τ).loc Cert.MixRefIdeal.main_arg6)
  M := m ((c.tc : Thread Cert.MixRefIdeal.nD Cert.MixRefIdeal.τ).loc Cert.MixRefIdeal.main_arg7)
  X := m ((c.tc : Thread Cert.MixRefIdeal.nD Cert.MixRefIdeal.τ).loc Cert.MixRefIdeal.main_arg8)
  WR := m ((c.tc : Thread Cert.MixRefIdeal.nD Cert.MixRefIdeal.τ).loc Cert.MixRefIdeal.main_arg9)
  WA := m ((c.tc : Thread Cert.MixRefIdeal.nD Cert.MixRefIdeal.τ).loc Cert.MixRefIdeal.main_arg10)
  WO := m ((c.tc : Thread Cert.MixRefIdeal.nD Cert.MixRefIdeal.τ).loc Cert.MixRefIdeal.main_arg11)
  G := m ((c.tc : Thread Cert.MixRefIdeal.nD Cert.MixRefIdeal.τ).loc Cert.MixRefIdeal.main_arg12)
  WQ := m ((c.tc : Thread Cert.MixRefIdeal.nD Cert.MixRefIdeal.τ).loc Cert.MixRefIdeal.main_arg13)
  SK := m ((c.tc : Thread Cert.MixRefIdeal.nD Cert.MixRefIdeal.τ).loc Cert.MixRefIdeal.main_arg14)

/-- The mixing's value claim: from arguments that agree and whose logarithms are finite, both runs end with the same three
arrays. -/
theorem algebraic : Cert.algebraic_MixIdeal_MixRefIdeal_pre_finite_sums := by
  intro m ρ m' ρ' hpre hagree
  refine ⟨fun c => mixedArr (args m c), fun c => normsArr (args m c), fun c => scoresArr (args m c), kernel_run m ρ, ?_⟩
  refine (θ_run Cert.MixRefIdeal.defs _ _).mono (fun r h c => ?_) (Cert.MixRefIdeal.Value.run (F := Ideal) m' ρ')
  obtain ⟨h0, h1, h2, k⟩ := h c
  have hargs : argsRef m' c = args m c := by
    obtain ⟨a0, a1, a2, a3, a4, a5, a6, a7, a8, a9, a10, a11, a12, a13, a14⟩ := hagree c
    unfold argsRef args
    rw [a0, a1, a2, a3, a4, a5, a6, a7, a8, a9, a10, a11, a12, a13, a14]
  have hm := means_agree (args m c) (finite_logs (args m c) (hpre c))
  rw [← hargs] at hm
  exact ⟨h0.trans ((Cert.MixRefIdeal.Read.val_main_v47_eq (F := Ideal) m' c).trans ((Cert.MixRefIdeal.Entry.mixed_eq (argsRef m' c) hm).trans (congrArg mixedArr hargs))),
    h1.trans ((Cert.MixRefIdeal.Read.val_main_v67_eq (F := Ideal) m' c).trans ((Cert.MixRefIdeal.Entry.norms_eq (argsRef m' c) hm).trans (congrArg normsArr hargs))),
    h2.trans ((Cert.MixRefIdeal.Read.val_main_v68_eq (F := Ideal) m' c).trans ((Cert.MixRefIdeal.Entry.scores_eq (argsRef m' c) hm).trans (congrArg scoresArr hargs))), k⟩

/-- The reference runs and keeps its arguments. -/
theorem reference_frame : Cert.quiescent_MixRefIdeal := fun m ρ _ =>
  (θ_run Cert.MixRefIdeal.defs _ _).mono
    (fun r h => ⟨fun c => (h c).2.2.2, sem_eq_zero_of_no_sems (by decide) r.2⟩)
    (Cert.MixRefIdeal.Value.run (F := Ideal) m ρ)

end Cert.MixEq

end
-- ==== Proof.FinalValue.lean ====
module

public import proofs.«01_k».proof.Proof.Gen.FinalIdeal.Value
public import Idealize.ShloMosaic.Lib.Pipeline.ValueKit
public import Idealize.ShloMosaic.Lib.Pipeline.ReadBack
public import Idealize.ShloMosaic.Lib.WholeRead
public import Idealize.ShloMosaic.Lib.Pointwise

/-! The last norm: its mathematics, and that the kernel's array after the run is it. -/

@[expose] public section

set_option maxRecDepth 16384

noncomputable section

namespace Cert.FinalSpec

open Idealize.ShloMosaic

/-- The root mean square norm of a row. -/
def normRow (h g : Fin 1024 → EReal) (j : Fin 1024) : EReal :=
  h j * Ideal.rsqrt (Ideal.div (∑ k : Fin 1024, h k * h k) (Ideal.ofBits FTy.f32 0x44800000#32)
    + Ideal.ofBits FTy.f32 0x358637BD#32) * g j

variable (H : (⟨2, ![32768, 1024]⟩ : Shape).Idx → EReal) (P : (⟨2, ![262144, 128]⟩ : Shape).Idx → EReal)
  (G : (⟨1, ![1024]⟩ : Shape).Idx → EReal)

/-- A token's row plus its experts' sum, which stands as eight rows of 128. -/
def summed (t : Fin 32768) (k : Fin 1024) : EReal :=
  H (ix2 t k) + P (ix2 ⟨t.val * 8 + k.val / 128, by omega⟩ ⟨k.val % 128, by omega⟩)

/-- The result: every token's norm. -/
def finalArr : (⟨2, ![32768, 1024]⟩ : Shape).Idx → EReal := fun i => normRow (summed H P (i 0)) (fun k => G (ix1 k)) (i 1)

/-- The result at an index whose coordinates are known. -/
theorem finalArr_at (i : (⟨2, ![32768, 1024]⟩ : Shape).Idx) (a : Fin 32768) (b : Fin 1024) (ha : (i 0).val = a.val) (hb : (i 1).val = b.val) :
    normRow (summed H P a) (fun k => G (ix1 k)) b = finalArr H P G i := by
  obtain rfl : a = i 0 := Fin.ext ha.symm
  obtain rfl : b = i 1 := Fin.ext hb.symm
  rfl

end Cert.FinalSpec

namespace Cert.FinalIdeal.Block

open Cert.FinalIdeal Cert.FinalIdeal.Gen Idealize.ShloMosaic Idealize.ShloMosaic.TcCoe Idealize.SL.Sem
open Cert.FinalSpec

variable (c : Dev nD) (i : grid0.Coords)
  (arg1 : Memref sig .tc .vmem S512x1024 .f32) (harg1 : arg1.IsWhole) (arg2 : Memref sig .tc .vmem S4096x128 .f32) (harg2 : arg2.IsWhole)
  (arg3 : Memref sig .tc .vmem S1x1024 .f32) (harg3 : arg3.IsWhole) (arg4 : Memref sig .tc .vmem S512x1024 .f32) (harg4 : arg4.IsWhole)
  (X : Vec Ideal S512x1024 .f32) (P : Vec Ideal S4096x128 .f32) (G : Vec Ideal S1x1024 .f32)

/-- A row of the block plus the experts' sum of its token. -/
def blockRow (r : Fin 512) (k : Fin 1024) : EReal :=
  X (ix2 r k) + P (ix2 ⟨r.val * 8 + k.val / 128, by omega⟩ ⟨k.val % 128, by omega⟩)

/-- A load of every eighth row from row `o`. -/
theorem stripe (o : Nat) (ho : o < 8) (inb) :
    View.readAt (Elt Ideal) arg2.view (LoadRect.mk (s := S4096x128) ![o, 0] ![512, 128] ![8, 1] inb) (harg2.unread P)
      = fun y : (⟨2, ![512, 128]⟩ : Shape).Idx => P (ix2 ⟨o + (y 0).val * 8, by have : (y 0).val < 512 := (y 0).isLt; omega⟩ (y 1)) := by
  funext y
  rw [harg2.readAt_unread]
  refine congrArg P (funext fun a => Fin.ext ?_)
  match a with
  | ⟨0, _⟩ => show o + 8 * (y 0).val = o + (y 0).val * 8; omega
  | ⟨1, _⟩ => show 0 + 1 * (y 1).val = (y 1).val; omega

/-- The norm of a block of rows, entry by entry. -/
theorem norm_block (h : FVec Ideal S512x1024 .f32) (g : Vec Ideal S1x1024 .f32) (r : Fin 512) (j : Fin 1024) :
    (mulf (mulf h (broadcastTo S512x1024 (rsqrt (addf (divf (shapeCast S512x1 (multiReduction .add [1] S512 (mulf h h) 0x00000000#32
        reduces_S512x1024_S512 (.inl rfl) rfl) shapeCasts_S512_S512x1) (broadcast S512x1 (Scalar.ofBits .f32 0x44800000#32 : Ideal .f32)))
        (broadcast S512x1 (Scalar.ofBits .f32 0x358637BD#32 : Ideal .f32)))) broadcasts_S512x1_S512x1024))
        (broadcastTo S512x1024 (shapeCast S1x1024 g shapeCasts_S1x1024_S1x1024 : FVec Ideal S1x1024 .f32) broadcasts_S1x1024_S512x1024) (ix2 r j) : EReal)
      = normRow (fun k => h (ix2 r k)) (fun k => g (ix2 0 k)) j := by
  unfold normRow
  pointwise

/-- The block of the result is the norm of those rows. -/
theorem out3 (r : Fin 512) (j : Fin 1024) :
    (out0_A_3 c i arg1 harg1 arg2 harg2 arg3 harg3 arg4 harg4 X P G (ix2 r j) : EReal) = normRow (blockRow X P r) (fun k => G (ix2 0 k)) j := by
  frame_out
  rw [stripe arg2 harg2 P 0 (by decide), stripe arg2 harg2 P 1 (by decide), stripe arg2 harg2 P 2 (by decide), stripe arg2 harg2 P 3 (by decide),
    stripe arg2 harg2 P 4 (by decide), stripe arg2 harg2 P 5 (by decide), stripe arg2 harg2 P 6 (by decide), stripe arg2 harg2 P 7 (by decide)]
  refine (norm_block _ G r j).trans ?_
  congr 1
  funext k
  have hk := k.isLt
  unfold blockRow
  pointwise
  congr 1
  split_ifs
  all_goals
    refine congrArg P (funext fun a => Fin.ext ?_)
    match a with
    | ⟨0, _⟩ => simp; omega
    | ⟨1, _⟩ => simp; omega

end Cert.FinalIdeal.Block

namespace Cert.FinalIdeal.Arrays

open Cert.FinalIdeal Cert.FinalIdeal.Gen Idealize.ShloMosaic Idealize.ShloMosaic.TcCoe Idealize.SL.Sem
open Cert.FinalSpec Cert.FinalIdeal.Block

variable (m : (ℓ : Loc nD τ sig) → Buf (Elt Ideal) ℓ) (c : Dev nD)

/-- The arguments: the rows, the experts' sums and the gain. -/
abbrev argH : (⟨2, ![32768, 1024]⟩ : Shape).Idx → EReal := m ((c : Thread nD τ).loc main_arg0)
abbrev argP : (⟨2, ![262144, 128]⟩ : Shape).Idx → EReal := m ((c : Thread nD τ).loc main_arg1)
abbrev argG : (⟨1, ![1024]⟩ : Shape).Idx → EReal := m ((c : Thread nD τ).loc main_arg2)

/-- The gain the call is handed. -/
theorem gain_apply (k : Fin 1024) : (V m c main_v0 (ix2 0 k) : EReal) = argG m c (ix1 k) := by
  change shapeCast S1x1024 (argG m c) shapeCasts_S1024_S1x1024 (ix2 0 k) = _
  pointwise

/-- Where the blocks of grid point `t` stand: 512 tokens from token `512 t`, their 4096 rows of experts' sums, the whole gain. -/
theorem idx_all : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) := by decide +kernel

/-- The token of row `r` of grid point `t`'s block. -/
def tokenAt (t : Fin cfg0.N) (r : Fin 512) : Fin 32768 := ⟨t.val * 512 + r.val, by have : t.val < 64 := t.isLt; omega⟩

/-- A block's row is the token's. -/
theorem blockRow_eq (t : Fin cfg0.N) (r : Fin 512) :
    blockRow (iblk m c 0 t) (iblk m c 1 t) r = summed (argH m c) (argP m c) (tokenAt t r) := by
  obtain ⟨e0, e1, -, -⟩ := idx_all t
  funext k
  unfold blockRow summed
  refine congrArg₂ (· + ·) ?_ ?_
  · refine Eq.trans ?_ (congrFun (V_main_arg0 m c) (ix2 (tokenAt t r) k))
    blk_ext [iblk, e0, tokenAt]
  · refine Eq.trans ?_ (congrFun (V_main_arg1 m c) (ix2 ⟨(tokenAt t r).val * 8 + k.val / 128, by have := (tokenAt t r).isLt; omega⟩ ⟨k.val % 128, by omega⟩))
    blk_ext [iblk, e1, tokenAt]

/-- The block's gain is the gain. -/
theorem blockGain_eq (t : Fin cfg0.N) : (fun k : Fin 1024 => (iblk m c 2 t (ix2 0 k) : EReal)) = fun k => argG m c (ix1 k) := by
  obtain ⟨-, -, e2, -⟩ := idx_all t
  funext k
  refine Eq.trans ?_ (gain_apply m c k)
  blk_ext [iblk, e2]

/-- The result's array after the run. -/
theorem array3 : (dats m 0 c).arrAt 3 cfg0.N = finalArr (argH m c) (argP m c) (argG m c) := by
  refine (dats m 0 c).arrAt_eq_of_covers 3 _ (by decide +kernel) fun t hf y => ?_
  obtain ⟨-, -, -, e0, e1⟩ := idx_all t
  blk_simp
  rw [after0_3]
  obtain ⟨r, j, rfl⟩ : ∃ (r : Fin 512) (j : Fin 1024), y = ix2 r j := ⟨y 0, y 1, eq_ix2 y⟩
  simp only [outsAt0]
  refine (out3 c (grid0.coords t) (ms0_0 t) (hs0_0 t) (ms0_1 t) (hs0_1 t) (ms0_2 t) (hs0_2 t) (ms0_3 t) (hs0_3 t) (iblk m c 0 t) (iblk m c 1 t) (iblk m c 2 t) r j).trans ?_
  rw [blockRow_eq, blockGain_eq]
  refine finalArr_at _ _ _ _ _ _ ?_ ?_
  · blk_simp
    simp only [tokenAt, e0]
  · blk_simp
    simp only [e1, Nat.zero_mul, Nat.zero_add]

end Cert.FinalIdeal.Arrays

end
-- ==== Proof.FinalEq.lean ====
/-
  The last norm's equation: the kernel's array is the reference's.
-/
module

public import proofs.«01_k».proof.Defs
public import proofs.«01_k».proof.Proof.FinalValue
public import proofs.«01_k».proof.Proof.Gen.FinalRefIdeal.Run
public import proofs.«01_k».proof.Proof.Gen.FinalRefIdeal.Read
public import Idealize.ShloMosaic.Lib.Quiescent

@[expose] public section

set_option maxRecDepth 16384

noncomputable section

namespace Cert.FinalRefIdeal.Entry

open Cert.FinalRefIdeal Cert.FinalRefIdeal.Gen Cert.FinalRefIdeal.Read Idealize.ShloMosaic Idealize.ShloMosaic.TcCoe
open Cert.FinalSpec

variable (H : (⟨2, ![32768, 1024]⟩ : Shape).Idx → EReal) (P : (⟨2, ![262144, 128]⟩ : Shape).Idx → EReal)
  (G : (⟨1, ![1024]⟩ : Shape).Idx → EReal)

/-- The rows that are normed. -/
theorem summed_apply (t : Fin 32768) (k : Fin 1024) : (val_main_v1 (F := Ideal) H P (ix2 t k) : EReal) = summed H P t k := by
  change (H (ix2 t k) : EReal) + (val_main_v0 (F := Ideal) P (ix2 t k) : EReal) = _
  unfold summed
  refine congrArg (H (ix2 t k) + ·) ?_
  rw [val_main_v0_apply]
  refine congrArg P (funext fun a => Fin.ext ?_)
  have ht := t.isLt
  have hk := k.isLt
  match a with
  | ⟨0, _⟩ => show (t.val * 1024 + k.val) / 128 = t.val * 8 + k.val / 128; omega
  | ⟨1, _⟩ => show (t.val * 1024 + k.val) % 128 = k.val % 128; omega

/-- The sum of squares. -/
theorem squares_apply (t : Fin 32768) :
    (val_main_v3 (F := Ideal) H P (ix1 t) : EReal) = ∑ k : Fin 1024, summed H P t k * summed H P t k := by
  have h0 : (val_main_cst (F := Ideal) (Shape.Idx.first h_S_) : EReal) = 0 := by
    rw [val_main_cst_apply]; simp [Ideal.ofBits, Ideal.ieee]
  refine (val_main_v3_apply H P _).trans ?_
  rw [h0, zero_add]
  refine Finset.sum_congr rfl fun k _ => ?_
  have hi : idx_main_v3 (ix1 t) k = ix2 t k := funext fun a => match a with | ⟨0, _⟩ => rfl | ⟨1, _⟩ => rfl
  rw [hi, val_main_v2_apply, summed_apply]
  rfl

/-- The reference's array is the specification's. -/
theorem out14 : (val_main_v14 (F := Ideal) H P G : (⟨2, ![32768, 1024]⟩ : Shape).Idx → EReal) = finalArr H P G := by
  funext i
  obtain ⟨t, j, rfl⟩ : ∃ (t : Fin 32768) (j : Fin 1024), i = ix2 t j := ⟨i 0, i 1, eq_ix2 i⟩
  refine Eq.trans ?_ (finalArr_at H P G (ix2 t j) t j rfl rfl)
  have hs := squares_apply H P t
  have hx := summed_apply H P t j
  unfold normRow
  rw [← hs, ← hx]
  pointwise [val_main_v14, val_main_v13, val_main_v12, val_main_v11, val_main_v10, val_main_v9, val_main_v8, val_main_v7, val_main_v6,
    val_main_v5, val_main_v4, val_main_cst_0, val_main_cst_1]

end Cert.FinalRefIdeal.Entry

namespace Cert.FinalEq

open Idealize.ShloMosaic Idealize.ShloMosaic.TcCoe Idealize.SL.Sem
open Cert.FinalSpec Cert.FinalIdeal.Arrays

/-- The kernel's run leaves the specification's array and keeps its arguments. -/
theorem kernel_run (m : (ℓ : Loc Cert.FinalIdeal.nD Cert.FinalIdeal.τ Cert.FinalIdeal.sig) → Buf (Elt Ideal) ℓ) (ρ : Dev Cert.FinalIdeal.nD → PrngReg) :
    θ_run (Cert.FinalIdeal.defs (F := Ideal)) (onTc (τ := Cert.FinalIdeal.τ) (Cert.FinalIdeal.main (F := Ideal))) ⟨m, fun _ => 0, ρ⟩ fun r => ∀ c : Dev Cert.FinalIdeal.nD,
      r.2.mem ((c.tc : Thread Cert.FinalIdeal.nD Cert.FinalIdeal.τ).loc Cert.FinalIdeal.main_v1) = finalArr (argH m c) (argP m c) (argG m c)
      ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2) := by
  refine (θ_run Cert.FinalIdeal.defs _ _).mono (fun r h c => ?_) (Cert.FinalIdeal.Value.run_blocks (F := Ideal) m ρ)
  obtain ⟨h0, k0, k1, k2⟩ := h c
  exact ⟨h0.trans (array3 m c), k0, k1, k2⟩

/-- The last norm's value claim: from arguments that agree, both runs end with the same array. -/
theorem algebraic : Cert.algebraic_FinalIdeal_FinalRefIdeal := by
  intro m ρ m' ρ' _ hagree
  refine ⟨fun c => finalArr (argH m c) (argP m c) (argG m c), kernel_run m ρ, ?_⟩
  refine (θ_run Cert.FinalRefIdeal.defs _ _).mono (fun r h c => ?_) (Cert.FinalRefIdeal.Value.run (F := Ideal) m' ρ')
  obtain ⟨h0, k0, k1, k2⟩ := h c
  obtain ⟨a0, a1, a2⟩ := hagree c
  have e0 := Cert.FinalRefIdeal.Entry.out14 (m' ((c.tc : Thread Cert.FinalRefIdeal.nD Cert.FinalRefIdeal.τ).loc Cert.FinalRefIdeal.main_arg0))
    (m' ((c.tc : Thread Cert.FinalRefIdeal.nD Cert.FinalRefIdeal.τ).loc Cert.FinalRefIdeal.main_arg1)) (m' ((c.tc : Thread Cert.FinalRefIdeal.nD Cert.FinalRefIdeal.τ).loc Cert.FinalRefIdeal.main_arg2))
  rw [← Cert.FinalRefIdeal.Read.val_main_v14_eq] at e0
  rw [a0, a1, a2] at e0
  refine ⟨h0.trans ?_, k0, k1, k2⟩
  rw [a0, a1, a2]
  exact e0

/-- The reference runs and keeps its arguments. -/
theorem reference_frame : Cert.quiescent_FinalRefIdeal := fun m ρ _ =>
  (θ_run Cert.FinalRefIdeal.defs _ _).mono
    (fun r h => ⟨fun c => (h c).2, sem_eq_zero_of_no_sems (by decide) r.2⟩)
    (Cert.FinalRefIdeal.Value.run (F := Ideal) m ρ)

end Cert.FinalEq

end
-- ==== Proof.lean ====
/- The claim: the projection, attention, mixing and last norm kernels of the layer run to their end and leave their
   arguments as they were, and each computes, over the extended reals, the same arrays as its reference. -/
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.Att
public import proofs.«01_k».proof.Proof.Gen.Att.Frame
public import proofs.«01_k».proof.Proof.Gen.AttIdeal
public import proofs.«01_k».proof.Proof.Gen.AttIdeal.Frame
public import proofs.«01_k».proof.Proof.Gen.AttRefIdeal
public import proofs.«01_k».proof.Proof.Gen.AttRefIdeal.Run
public import proofs.«01_k».proof.Proof.Gen.AttIdeal.Value
public import proofs.«01_k».proof.Proof.Gen.AttRefIdeal.Read
public import proofs.«01_k».proof.Proof.Gen.Pre_finite
public import proofs.«01_k».proof.Proof.Gen.Pre_finite_sums
public import proofs.«01_k».proof.Proof.Gen.Mix
public import proofs.«01_k».proof.Proof.Gen.Mix.Launch
public import proofs.«01_k».proof.Proof.Gen.Mix.Skeleton
public import proofs.«01_k».proof.Proof.Gen.Mix.Points
public import proofs.«01_k».proof.Proof.Gen.MixIdeal.Launch
public import proofs.«01_k».proof.Proof.Gen.MixIdeal.Skeleton
public import proofs.«01_k».proof.Proof.Gen.MixIdeal.Points
public import proofs.«01_k».proof.Proof.Gen.MixIdeal
public import proofs.«01_k».proof.Proof.Gen.MixRefIdeal
public import proofs.«01_k».proof.Proof.Gen.MixRefIdeal.Run
public import proofs.«01_k».proof.Proof.Gen.MixRefIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.ProjEq
public import proofs.«01_k».proof.Proof.AttEq
public import proofs.«01_k».proof.Proof.MixBody
public import proofs.«01_k».proof.Proof.MixEq
public import proofs.«01_k».proof.Proof.FinalEq
public import Idealize.ShloMosaic.Adequacy
public import Idealize.ShloMosaic.Init

@[expose] public section

noncomputable section

namespace Cert.Proof

open Idealize.ShloMosaic Idealize.SL.Sem

/-- Everything certified: the frames, the passage to the reals, and the equality with the reference. -/
theorem claim : Cert.Claim :=
  ⟨Cert.Proj.Gen.facts, Cert.ProjIdeal.Gen.facts, Cert.ProjRefIdeal.Gen.facts, Cert.Att.Gen.facts, Cert.AttIdeal.Gen.facts,
    Cert.AttRefIdeal.Gen.facts, Cert.Mix.Gen.facts, Cert.MixIdeal.Gen.facts, Cert.MixRefIdeal.Gen.facts, Cert.Final.Gen.facts,
    Cert.FinalIdeal.Gen.facts, Cert.FinalRefIdeal.Gen.facts, Cert.Pre_finite.Gen.facts,
    Cert.Pre_finite_sums.Gen.facts,
    fun m ρ _ => Cert.Proj.Gen.frame m ρ,
    fun m ρ _ => Cert.ProjIdeal.Gen.frame m ρ,
    Cert.ProjEq.reference_frame,
    fun m ρ _ => Cert.Att.Gen.frame m ρ,
    fun m ρ _ => Cert.AttIdeal.Gen.frame m ρ,
    fun m ρ _ => Cert.AttIdeal.Gen.frame m ρ,
    Cert.AttEq.reference_frame,
    fun m ρ _ => Cert.AttEq.reference_frame m ρ trivial,
    fun m ρ _ => Cert.Mix.Gen.frame m ρ,
    fun m ρ _ => Cert.MixIdeal.Gen.frame m ρ,
    fun m ρ _ => Cert.MixIdeal.Gen.frame m ρ,
    Cert.MixEq.reference_frame,
    fun m ρ _ => Cert.MixEq.reference_frame m ρ trivial,
    fun m ρ _ => Cert.Final.Gen.frame m ρ,
    fun m ρ _ => Cert.FinalIdeal.Gen.frame m ρ,
    Cert.FinalEq.reference_frame,
    trivial,
    Cert.ProjEq.algebraic,
    trivial,
    Cert.AttEq.algebraic,
    trivial,
    Cert.MixEq.algebraic,
    trivial,
    Cert.FinalEq.algebraic⟩

end Cert.Proof

end
